-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S8x1024 : Shape := ⟨2, ![8, 1024]⟩
abbrev S8x2 : Shape := ⟨2, ![8, 2]⟩
abbrev S8x2048x1024 : Shape := ⟨3, ![8, 2048, 1024]⟩
abbrev S8x1024x2048 : Shape := ⟨3, ![8, 1024, 2048]⟩
abbrev S_ : Shape := ⟨0, ![]⟩

class Facts : Prop where
  bcast_S_S8x2 : S_.BroadcastsInDim S8x2 (![] : Fin 0 → Fin S8x2.rank)
  reducesTo_S8x2_S_d0_1 : S8x2.ReducesTo [0, 1] S_
  h_S_ : 0 < S_.numel

variable [Facts]

def fn {F : FTy → Type} [FloatOps F] (main_arg0 : FVec F S8x1024 .f32) (main_arg1 : IVec S8x2 32) (main_arg2 : FVec F S8x2048x1024 .f32) (main_arg3 : FVec F S8x2048x1024 .f32) (main_arg4 : FVec F S8x1024x2048 .f32) : IVec S_ 1 :=
  let main_c : IVec S_ 32 := constantI S_ 32 0#32
  let main_v0 : IVec S8x2 32 := broadcastInDim S8x2 ![] bcast_S_S8x2 main_c
  let main_v1 : IVec S8x2 1 := cmpi .sge main_arg1 main_v0
  let main_c_0 : IVec S_ 32 := constantI S_ 32 8#32
  let main_v2 : IVec S8x2 32 := broadcastInDim S8x2 ![] bcast_S_S8x2 main_c_0
  let main_v3 : IVec S8x2 1 := cmpi .slt main_arg1 main_v2
  let main_v4 : IVec S8x2 1 := andi main_v1 main_v3
  let main_c_1 : IVec S_ 1 := constantI S_ 1 1#1
  let main_v5 : IVec S_ 1 := (fun x v => Host.reduce IntOp.andi x v reducesTo_S8x2_S_d0_1 h_S_) main_v4 main_c_1
  main_v5
-- ==== Kernel.lean ====
abbrev S8x1024 : Shape := ⟨2, ![8, 1024]⟩
abbrev S8x2 : Shape := ⟨2, ![8, 2]⟩
abbrev S8x2048x1024 : Shape := ⟨3, ![8, 2048, 1024]⟩
abbrev S8x1024x2048 : Shape := ⟨3, ![8, 1024, 2048]⟩
abbrev S8 : Shape := ⟨1, ![8]⟩
abbrev S8x2x1 : Shape := ⟨3, ![8, 2, 1]⟩
abbrev S1x1x8 : Shape := ⟨3, ![1, 1, 8]⟩
abbrev S8x2x8 : Shape := ⟨3, ![8, 2, 8]⟩
abbrev S_ : Shape := ⟨0, ![]⟩
abbrev S1 : Shape := ⟨1, ![1]⟩
abbrev S1x8 : Shape := ⟨2, ![1, 8]⟩
abbrev S8x1 : Shape := ⟨2, ![8, 1]⟩
abbrev S8x8 : Shape := ⟨2, ![8, 8]⟩
abbrev S9 : Shape := ⟨1, ![9]⟩
abbrev S16x1024 : Shape := ⟨2, ![16, 1024]⟩
abbrev S2x8x1024 : Shape := ⟨3, ![2, 8, 1024]⟩
abbrev S8x2x1024 : Shape := ⟨3, ![8, 2, 1024]⟩
abbrev S1x2048x1024 : Shape := ⟨3, ![1, 2048, 1024]⟩
abbrev S1x1024x2048 : Shape := ⟨3, ![1, 1024, 2048]⟩
abbrev S2048x1024 : Shape := ⟨2, ![2048, 1024]⟩
abbrev S8x2048 : Shape := ⟨2, ![8, 2048]⟩
abbrev S1024x2048 : Shape := ⟨2, ![1024, 2048]⟩

abbrev nBuf : Space → Nat
  | .hbm => 48
  | .vmem => 9
  | .smem => 1
  | _ => 0

abbrev bufTy : (tb : Table) → Fin (tcTables nBuf tb) → BufTy
  | .hbm, ⟨0, _⟩ => ⟨S8x1024, .f32⟩
  | .hbm, ⟨1, _⟩ => ⟨S8x2, .i32⟩
  | .hbm, ⟨2, _⟩ => ⟨S8x2048x1024, .f32⟩
  | .hbm, ⟨3, _⟩ => ⟨S8x2048x1024, .f32⟩
  | .hbm, ⟨4, _⟩ => ⟨S8x1024x2048, .f32⟩
  | .hbm, ⟨5, _⟩ => ⟨S8, .i32⟩
  | .hbm, ⟨6, _⟩ => ⟨S8x2x1, .i32⟩
  | .hbm, ⟨7, _⟩ => ⟨S1x1x8, .i32⟩
  | .hbm, ⟨8, _⟩ => ⟨S8x2x8, .i32⟩
  | .hbm, ⟨9, _⟩ => ⟨S8x2x8, .i32⟩
  | .hbm, ⟨10, _⟩ => ⟨S8x2x8, .i1⟩
  | .hbm, ⟨11, _⟩ => ⟨S_, .i1⟩
  | .hbm, ⟨12, _⟩ => ⟨S8, .i1⟩
  | .hbm, ⟨13, _⟩ => ⟨S8, .i32⟩
  | .hbm, ⟨14, _⟩ => ⟨S_, .i32⟩
  | .hbm, ⟨15, _⟩ => ⟨S_, .i32⟩
  | .hbm, ⟨16, _⟩ => ⟨S8, .i32⟩
  | .hbm, ⟨17, _⟩ => ⟨S1, .i32⟩
  | .hbm, ⟨18, _⟩ => ⟨S_, .i32⟩
  | .hbm, ⟨19, _⟩ => ⟨S1x8, .i32⟩
  | .hbm, ⟨20, _⟩ => ⟨S8x1, .i32⟩
  | .hbm, ⟨21, _⟩ => ⟨S_, .i32⟩
  | .hbm, ⟨22, _⟩ => ⟨S8x1, .i32⟩
  | .hbm, ⟨23, _⟩ => ⟨S8x1, .i32⟩
  | .hbm, ⟨24, _⟩ => ⟨S8x8, .i32⟩
  | .hbm, ⟨25, _⟩ => ⟨S8x8, .i32⟩
  | .hbm, ⟨26, _⟩ => ⟨S8x8, .i1⟩
  | .hbm, ⟨27, _⟩ => ⟨S1x8, .i1⟩
  | .hbm, ⟨28, _⟩ => ⟨S8x8, .i1⟩
  | .hbm, ⟨29, _⟩ => ⟨S8x8, .i1⟩
  | .hbm, ⟨30, _⟩ => ⟨S1x8, .i32⟩
  | .hbm, ⟨31, _⟩ => ⟨S_, .i32⟩
  | .hbm, ⟨32, _⟩ => ⟨S8x8, .i32⟩
  | .hbm, ⟨33, _⟩ => ⟨S8x8, .i32⟩
  | .hbm, ⟨34, _⟩ => ⟨S8x8, .i32⟩
  | .hbm, ⟨35, _⟩ => ⟨S_, .i32⟩
  | .hbm, ⟨36, _⟩ => ⟨S8, .i32⟩
  | .hbm, ⟨37, _⟩ => ⟨S_, .i32⟩
  | .hbm, ⟨38, _⟩ => ⟨S8, .i32⟩
  | .hbm, ⟨39, _⟩ => ⟨S8, .i32⟩
  | .hbm, ⟨40, _⟩ => ⟨S_, .i32⟩
  | .hbm, ⟨41, _⟩ => ⟨S_, .i32⟩
  | .hbm, ⟨42, _⟩ => ⟨S8, .i32⟩
  | .hbm, ⟨43, _⟩ => ⟨S8, .i32⟩
  | .hbm, ⟨44, _⟩ => ⟨S1, .i32⟩
  | .hbm, ⟨45, _⟩ => ⟨S16x1024, .f32⟩
  | .hbm, ⟨46, _⟩ => ⟨S2x8x1024, .f32⟩
  | .hbm, ⟨47, _⟩ => ⟨S8x2x1024, .f32⟩
  | .local _ .vmem, ⟨0, _⟩ => ⟨S8x1024, .f32⟩
  | .local _ .vmem, ⟨1, _⟩ => ⟨S8x2, .i32⟩
  | .local _ .vmem, ⟨2, _⟩ => ⟨S1x2048x1024, .f32⟩
  | .local _ .vmem, ⟨3, _⟩ => ⟨S1x2048x1024, .f32⟩
  | .local _ .vmem, ⟨4, _⟩ => ⟨S1x2048x1024, .f32⟩
  | .local _ .vmem, ⟨5, _⟩ => ⟨S1x2048x1024, .f32⟩
  | .local _ .vmem, ⟨6, _⟩ => ⟨S1x1024x2048, .f32⟩
  | .local _ .vmem, ⟨7, _⟩ => ⟨S1x1024x2048, .f32⟩
  | .local _ .vmem, ⟨8, _⟩ => ⟨S16x1024, .f32⟩
  | .local _ .smem, ⟨0, _⟩ => ⟨S9, .i32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c : Ref sig .tc := ⟨.hbm, 11, rfl⟩
abbrev main_call0_v6 : Ref sig .tc := ⟨.hbm, 12, rfl⟩
abbrev main_call0_v7 : Ref sig .tc := ⟨.hbm, 13, rfl⟩
abbrev main_call0_call0_call0_c : Ref sig .tc := ⟨.hbm, 14, rfl⟩
abbrev main_call0_call0_call0_v0 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_v12 : Ref sig .tc := ⟨.hbm, 20, rfl⟩
abbrev main_call0_c_0 : Ref sig .tc := ⟨.hbm, 21, rfl⟩
abbrev main_call0_v13 : Ref sig .tc := ⟨.hbm, 22, rfl⟩
abbrev main_call0_v14 : Ref sig .tc := ⟨.hbm, 23, rfl⟩
abbrev main_call0_v15 : Ref sig .tc := ⟨.hbm, 24, rfl⟩
abbrev main_call0_v16 : Ref sig .tc := ⟨.hbm, 25, rfl⟩
abbrev main_call0_v17 : Ref sig .tc := ⟨.hbm, 26, rfl⟩
abbrev main_call0_v18 : Ref sig .tc := ⟨.hbm, 27, rfl⟩
abbrev main_call0_v19 : Ref sig .tc := ⟨.hbm, 28, rfl⟩
abbrev main_call0_v20 : Ref sig .tc := ⟨.hbm, 29, rfl⟩
abbrev main_call0_v21 : Ref sig .tc := ⟨.hbm, 30, rfl⟩
abbrev main_call0_c_1 : Ref sig .tc := ⟨.hbm, 31, rfl⟩
abbrev main_call0_call1_v0 : Ref sig .tc := ⟨.hbm, 32, rfl⟩
abbrev main_call0_call1_v1 : Ref sig .tc := ⟨.hbm, 33, rfl⟩
abbrev main_call0_v22 : Ref sig .tc := ⟨.hbm, 34, rfl⟩
abbrev main_call0_c_2 : Ref sig .tc := ⟨.hbm, 35, rfl⟩
abbrev main_call0_v23 : Ref sig .tc := ⟨.hbm, 36, rfl⟩
abbrev main_call0_c_3 : Ref sig .tc := ⟨.hbm, 37, rfl⟩
abbrev main_call0_call2_v0 : Ref sig .tc := ⟨.hbm, 38, rfl⟩
abbrev main_call0_v24 : Ref sig .tc := ⟨.hbm, 39, rfl⟩
abbrev main_call0_c_4 : Ref sig .tc := ⟨.hbm, 40, rfl⟩
abbrev main_call0_v25 : Ref sig .tc := ⟨.hbm, 41, rfl⟩
abbrev main_call0_v26 : Ref sig .tc := ⟨.hbm, 42, rfl⟩
abbrev main_call0_v27 : Ref sig .tc := ⟨.hbm, 43, rfl⟩
abbrev main_call0_v28 : Ref sig .tc := ⟨.hbm, 44, rfl⟩
abbrev main_call0_v30 : Ref sig .tc := ⟨.hbm, 45, rfl⟩
abbrev main_call0_v31 : Ref sig .tc := ⟨.hbm, 46, rfl⟩
abbrev main_v0 : Ref sig .tc := ⟨.hbm, 47, rfl⟩
abbrev main_call0_v29 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨2, ![1, 8], ![false, false]⟩

abbrev pre0 : Pipeline.Prefetch sig := ⟨1, ![main_call0_v29.idx], fun | 0 => main_call0_v29.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let v23 : Index := Scalar.indexCast arg1
  ![v23.toNat]
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let arg0 : BitVec 32 := BitVec.ofNat 32 (i 0).val
  let c0_i32_0 : BitVec 32 := 0#32
  let v1 : BitVec 1 := Scalar.cmpi .eq arg0 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def k0_cond2 (i : grid0.Coords) (v5 : BitVec 32) : BitVec 1 :=
  let arg1 : BitVec 32 := BitVec.ofNat 32 (i 1).val
  let v6 : BitVec 1 := Scalar.cmpi .slt arg1 v5
  let v7 : BitVec 32 := Scalar.extui v6
  let c0_i32_2 : BitVec 32 := 0#32
  let v8 : BitVec 1 := Scalar.cmpi .ne v7 c0_i32_2
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (k0_off1_inb : ∀ i : grid0.Coords, ∀ a, (k0_off1 i) a + S1.size a ≤ S9.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S9) ![v0.toNat] S1.size (k0_off1_inb i)) numel1_S1
  let c0_i32 : BitVec 32 := 0#32
  let c0_i32_0 : BitVec 32 := 0#32
  ![v1.toNat, arg0.toNat, c0_i32.toNat]

def cc0_transform_3 (k0_off1_inb : ∀ i : grid0.Coords, ∀ a, (k0_off1 i) a + S1.size a ≤ S9.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S9) ![v0.toNat] S1.size (k0_off1_inb i)) numel1_S1
  let c0_i32 : BitVec 32 := 0#32
  let c0_i32_0 : BitVec 32 := 0#32
  ![v1.toNat, arg0.toNat, c0_i32.toNat]

def cc0_transform_4 (k0_off1_inb : ∀ i : grid0.Coords, ∀ a, (k0_off1 i) a + S1.size a ≤ S9.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S9) ![v0.toNat] S1.size (k0_off1_inb i)) numel1_S1
  let c0_i32 : BitVec 32 := 0#32
  let c0_i32_0 : BitVec 32 := 0#32
  ![v1.toNat, c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S8x2 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S16x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]
-- ==== ReferenceIdeal.lean ====
abbrev S8x1024 : Shape := ⟨2, ![8, 1024]⟩
abbrev S8x2 : Shape := ⟨2, ![8, 2]⟩
abbrev S8x2048x1024 : Shape := ⟨3, ![8, 2048, 1024]⟩
abbrev S8x1024x2048 : Shape := ⟨3, ![8, 1024, 2048]⟩
abbrev S_ : Shape := ⟨0, ![]⟩
abbrev S8x2x1 : Shape := ⟨3, ![8, 2, 1]⟩
abbrev S1 : Shape := ⟨1, ![1]⟩
abbrev S1x1x1 : Shape := ⟨3, ![1, 1, 1]⟩
abbrev S8x2x2048x1024 : Shape := ⟨4, ![8, 2, 2048, 1024]⟩
abbrev S8x2x1024x2048 : Shape := ⟨4, ![8, 2, 1024, 2048]⟩
abbrev S8x2x2048 : Shape := ⟨3, ![8, 2, 2048]⟩
abbrev S8x2x1024 : Shape := ⟨3, ![8, 2, 1024]⟩

abbrev nBuf : Space → Nat
  | .hbm => 87
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S8x2, .i32⟩
  | .hbm, ⟨2, _⟩ => ⟨S8x2048x1024, .f32⟩
  | .hbm, ⟨3, _⟩ => ⟨S8x2048x1024, .f32⟩
  | .hbm, ⟨4, _⟩ => ⟨S8x1024x2048, .f32⟩
  | .hbm, ⟨5, _⟩ => ⟨S_, .i32⟩
  | .hbm, ⟨6, _⟩ => ⟨S8x2, .i32⟩
  | .hbm, ⟨7, _⟩ => ⟨S8x2, .i1⟩
  | .hbm, ⟨8, _⟩ => ⟨S_, .i32⟩
  | .hbm, ⟨9, _⟩ => ⟨S8x2, .i32⟩
  | .hbm, ⟨10, _⟩ => ⟨S8x2, .i32⟩
  | .hbm, ⟨11, _⟩ => ⟨S8x2, .i32⟩
  | .hbm, ⟨12, _⟩ => ⟨S8x2x1, .i32⟩
  | .hbm, ⟨13, _⟩ => ⟨S1, .i32⟩
  | .hbm, ⟨14, _⟩ => ⟨S_, .i32⟩
  | .hbm, ⟨15, _⟩ => ⟨S8x2x1, .i32⟩
  | .hbm, ⟨16, _⟩ => ⟨S8x2x1, .i1⟩
  | .hbm, ⟨17, _⟩ => ⟨S1x1x1, .i32⟩
  | .hbm, ⟨18, _⟩ => ⟨S8x2x1, .i32⟩
  | .hbm, ⟨19, _⟩ => ⟨S8x2x1, .i1⟩
  | .hbm, ⟨20, _⟩ => ⟨S8x2x1, .i1⟩
  | .hbm, ⟨21, _⟩ => ⟨S_, .i1⟩
  | .hbm, ⟨22, _⟩ => ⟨S8x2, .i1⟩
  | .hbm, ⟨23, _⟩ => ⟨S8x2x2048x1024, .f32⟩
  | .hbm, ⟨24, _⟩ => ⟨S8x2x2048x1024, .i1⟩
  | .hbm, ⟨25, _⟩ => ⟨S_, .f32⟩
  | .hbm, ⟨26, _⟩ => ⟨S8x2x2048x1024, .f32⟩
  | .hbm, ⟨27, _⟩ => ⟨S8x2x2048x1024, .f32⟩
  | .hbm, ⟨28, _⟩ => ⟨S_, .i32⟩
  | .hbm, ⟨29, _⟩ => ⟨S8x2, .i32⟩
  | .hbm, ⟨30, _⟩ => ⟨S8x2, .i1⟩
  | .hbm, ⟨31, _⟩ => ⟨S_, .i32⟩
  | .hbm, ⟨32, _⟩ => ⟨S8x2, .i32⟩
  | .hbm, ⟨33, _⟩ => ⟨S8x2, .i32⟩
  | .hbm, ⟨34, _⟩ => ⟨S8x2, .i32⟩
  | .hbm, ⟨35, _⟩ => ⟨S8x2x1, .i32⟩
  | .hbm, ⟨36, _⟩ => ⟨S1, .i32⟩
  | .hbm, ⟨37, _⟩ => ⟨S_, .i32⟩
  | .hbm, ⟨38, _⟩ => ⟨S8x2x1, .i32⟩
  | .hbm, ⟨39, _⟩ => ⟨S8x2x1, .i1⟩
  | .hbm, ⟨40, _⟩ => ⟨S1x1x1, .i32⟩
  | .hbm, ⟨41, _⟩ => ⟨S8x2x1, .i32⟩
  | .hbm, ⟨42, _⟩ => ⟨S8x2x1, .i1⟩
  | .hbm, ⟨43, _⟩ => ⟨S8x2x1, .i1⟩
  | .hbm, ⟨44, _⟩ => ⟨S_, .i1⟩
  | .hbm, ⟨45, _⟩ => ⟨S8x2, .i1⟩
  | .hbm, ⟨46, _⟩ => ⟨S8x2x2048x1024, .f32⟩
  | .hbm, ⟨47, _⟩ => ⟨S8x2x2048x1024, .i1⟩
  | .hbm, ⟨48, _⟩ => ⟨S_, .f32⟩
  | .hbm, ⟨49, _⟩ => ⟨S8x2x2048x1024, .f32⟩
  | .hbm, ⟨50, _⟩ => ⟨S8x2x2048x1024, .f32⟩
  | .hbm, ⟨51, _⟩ => ⟨S_, .i32⟩
  | .hbm, ⟨52, _⟩ => ⟨S8x2, .i32⟩
  | .hbm, ⟨53, _⟩ => ⟨S8x2, .i1⟩
  | .hbm, ⟨54, _⟩ => ⟨S_, .i32⟩
  | .hbm, ⟨55, _⟩ => ⟨S8x2, .i32⟩
  | .hbm, ⟨56, _⟩ => ⟨S8x2, .i32⟩
  | .hbm, ⟨57, _⟩ => ⟨S8x2, .i32⟩
  | .hbm, ⟨58, _⟩ => ⟨S8x2x1, .i32⟩
  | .hbm, ⟨59, _⟩ => ⟨S1, .i32⟩
  | .hbm, ⟨60, _⟩ => ⟨S_, .i32⟩
  | .hbm, ⟨61, _⟩ => ⟨S8x2x1, .i32⟩
  | .hbm, ⟨62, _⟩ => ⟨S8x2x1, .i1⟩
  | .hbm, ⟨63, _⟩ => ⟨S1x1x1, .i32⟩
  | .hbm, ⟨64, _⟩ => ⟨S8x2x1, .i32⟩
  | .hbm, ⟨65, _⟩ => ⟨S8x2x1, .i1⟩
  | .hbm, ⟨66, _⟩ => ⟨S8x2x1, .i1⟩
  | .hbm, ⟨67, _⟩ => ⟨S_, .i1⟩
  | .hbm, ⟨68, _⟩ => ⟨S8x2, .i1⟩
  | .hbm, ⟨69, _⟩ => ⟨S8x2x1024x2048, .f32⟩
  | .hbm, ⟨70, _⟩ => ⟨S8x2x1024x2048, .i1⟩
  | .hbm, ⟨71, _⟩ => ⟨S_, .f32⟩
  | .hbm, ⟨72, _⟩ => ⟨S8x2x1024x2048, .f32⟩
  | .hbm, ⟨73, _⟩ => ⟨S8x2x1024x2048, .f32⟩
  | .hbm, ⟨74, _⟩ => ⟨S8x2x2048, .f32⟩
  | .hbm, ⟨75, _⟩ => ⟨S8x2x2048, .f32⟩
  | .hbm, ⟨76, _⟩ => ⟨S8x2x2048, .f32⟩
  | .hbm, ⟨77, _⟩ => ⟨S_, .f32⟩
  | .hbm, ⟨78, _⟩ => ⟨S8x2x2048, .f32⟩
  | .hbm, ⟨79, _⟩ => ⟨S8x2x2048, .f32⟩
  | .hbm, ⟨80, _⟩ => ⟨S_, .f32⟩
  | .hbm, ⟨81, _⟩ => ⟨S8x2x2048, .f32⟩
  | .hbm, ⟨82, _⟩ => ⟨S8x2x2048, .f32⟩
  | .hbm, ⟨83, _⟩ => ⟨S8x2x2048, .f32⟩
  | .hbm, ⟨84, _⟩ => ⟨S8x2x2048, .f32⟩
  | .hbm, ⟨85, _⟩ => ⟨S8x2x2048, .f32⟩
  | .hbm, ⟨86, _⟩ => ⟨S8x2x1024, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v0 : Ref sig .tc := ⟨.hbm, 27, rfl⟩
abbrev main_call1_c : Ref sig .tc := ⟨.hbm, 28, rfl⟩
abbrev main_call1_v0 : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_c_1 : Ref sig .tc := ⟨.hbm, 36, rfl⟩
abbrev main_call1_c_2 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_c_3 : Ref sig .tc := ⟨.hbm, 44, rfl⟩
abbrev main_call1_v12 : Ref sig .tc := ⟨.hbm, 45, rfl⟩
abbrev main_call1_v13 : Ref sig .tc := ⟨.hbm, 46, rfl⟩
abbrev main_call1_v14 : Ref sig .tc := ⟨.hbm, 47, rfl⟩
abbrev main_call1_cst : Ref sig .tc := ⟨.hbm, 48, rfl⟩
abbrev main_call1_v15 : Ref sig .tc := ⟨.hbm, 49, rfl⟩
abbrev main_v1 : Ref sig .tc := ⟨.hbm, 50, rfl⟩
abbrev main_call2_c : Ref sig .tc := ⟨.hbm, 51, rfl⟩
abbrev main_call2_v0 : Ref sig .tc := ⟨.hbm, 52, rfl⟩
abbrev main_call2_v1 : Ref sig .tc := ⟨.hbm, 53, rfl⟩
abbrev main_call2_c_0 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_call2_v5 : Ref sig .tc := ⟨.hbm, 58, rfl⟩
abbrev main_call2_c_1 : Ref sig .tc := ⟨.hbm, 59, rfl⟩
abbrev main_call2_c_2 : Ref sig .tc := ⟨.hbm, 60, rfl⟩
abbrev main_call2_v6 : Ref sig .tc := ⟨.hbm, 61, rfl⟩
abbrev main_call2_v7 : Ref sig .tc := ⟨.hbm, 62, rfl⟩
abbrev main_call2_v8 : Ref sig .tc := ⟨.hbm, 63, rfl⟩
abbrev main_call2_v9 : Ref sig .tc := ⟨.hbm, 64, rfl⟩
abbrev main_call2_v10 : Ref sig .tc := ⟨.hbm, 65, rfl⟩
abbrev main_call2_v11 : Ref sig .tc := ⟨.hbm, 66, rfl⟩
abbrev main_call2_c_3 : Ref sig .tc := ⟨.hbm, 67, rfl⟩
abbrev main_call2_v12 : Ref sig .tc := ⟨.hbm, 68, rfl⟩
abbrev main_call2_v13 : Ref sig .tc := ⟨.hbm, 69, rfl⟩
abbrev main_call2_v14 : Ref sig .tc := ⟨.hbm, 70, rfl⟩
abbrev main_call2_cst : Ref sig .tc := ⟨.hbm, 71, rfl⟩
abbrev main_call2_v15 : Ref sig .tc := ⟨.hbm, 72, rfl⟩
abbrev main_v2 : Ref sig .tc := ⟨.hbm, 73, rfl⟩
abbrev main_v3 : Ref sig .tc := ⟨.hbm, 74, rfl⟩
abbrev main_call3_v0 : Ref sig .tc := ⟨.hbm, 75, rfl⟩
abbrev main_call3_v1 : Ref sig .tc := ⟨.hbm, 76, rfl⟩
abbrev main_call3_cst : Ref sig .tc := ⟨.hbm, 77, rfl⟩
abbrev main_call3_v2 : Ref sig .tc := ⟨.hbm, 78, rfl⟩
abbrev main_call3_v3 : Ref sig .tc := ⟨.hbm, 79, rfl⟩
abbrev main_call3_cst_0 : Ref sig .tc := ⟨.hbm, 80, rfl⟩
abbrev main_call3_v4 : Ref sig .tc := ⟨.hbm, 81, rfl⟩
abbrev main_call3_v5 : Ref sig .tc := ⟨.hbm, 82, rfl⟩
abbrev main_v4 : Ref sig .tc := ⟨.hbm, 83, rfl⟩
abbrev main_v5 : Ref sig .tc := ⟨.hbm, 84, rfl⟩
abbrev main_v6 : Ref sig .tc := ⟨.hbm, 85, rfl⟩
abbrev main_v7 : Ref sig .tc := ⟨.hbm, 86, rfl⟩

abbrev nD : Nat := 1
abbrev τ : Topo := Topo.v7x

variable {F : FTy → Type} [FloatOps F]
-- ==== Proof.Router.lean ====
module

public import proofs.«01_k».proof.Proof.Gen.KernelIdeal

@[expose] public section

namespace Cert.Router

open Idealize.ShloMosaic Cert.KernelIdeal Cert.KernelIdeal.Facts₀

/-- Which of the eight experts some token selects: bit `e` is set when one of the 8×2 expert
    indices is `e`. -/
def used (ei : IVec S8x2 32) : IVec S8 1 :=
  Host.reduce IntOp.ori
    (cmpi .eq
      (broadcastInDim S8x2x8 ![0, 1, 2] bcast_S8x2x1_S8x2x8_0_1_2 (broadcastInDim S8x2x1 ![0, 1] bcast_S8x2_S8x2x1_0_1 ei))
      (broadcastInDim S8x2x8 ![0, 1, 2] bcast_S1x1x8_S8x2x8_0_1_2 (broadcastInDim S1x1x8 ![2] bcast_S8_S1x1x8_2 (iotaInDim S8 32 0))))
    (constantI S_ 1 0#1) reducesTo_S8x2x8_S8_d0_1 h_S_

/-- The running count of selected experts: element `e` counts those among the experts `0 … e`. -/
def cumul (u : IVec S8 1) : IVec S8 32 :=
  Host.reduceWindow IntOp.addi ![8] ![1] ![7] ![0] (extui 32 u natLt_1_32)
    (broadcastInDim S_ ![] bcast_S_S_ (constantI S_ 32 0#32)) reduceWindows_S8_S8_w8s1p7_0 h_S_

/-- How many experts are selected. -/
def cnt (u : IVec S8 1) : IVec S_ 32 :=
  shapeCast S_ (extractStridedSlice S1 ![7] (cumul u) slices_S8_S1_7) shapeCasts_S1_S_

/-- Entry `(k, e)` says that expert `e` is the `k`-th selected one. -/
def isKth (u : IVec S8 1) : IVec S8x8 1 :=
  andi
    (cmpi .eq
      (broadcastInDim S8x8 ![0, 1] bcast_S1x8_S8x8_0_1 (broadcastInDim S1x8 ![1] bcast_S8_S1x8_1 (cumul u)))
      (broadcastInDim S8x8 ![0, 1] bcast_S8x1_S8x8_0_1
        (addi (broadcastInDim S8x1 ![0] bcast_S8_S8x1_0 (iotaInDim S8 32 0))
          (broadcastInDim S8x1 ![] bcast_S_S8x1 (constantI S_ 32 1#32)))))
    (broadcastInDim S8x8 ![0, 1] bcast_S1x8_S8x8_0_1 (broadcastInDim S1x8 ![1] bcast_S8_S1x8_1 u))

/-- The `k`-th selected expert, or 8 where fewer are selected. -/
def kth (u : IVec S8 1) : IVec S8 32 :=
  Host.reduce IntOp.minsi
    (select (isKth u)
      (broadcastInDim S8x8 ![0, 1] bcast_S1x8_S8x8_0_1 (broadcastInDim S1x8 ![1] bcast_S8_S1x8_1 (iotaInDim S8 32 0)))
      (broadcastInDim S8x8 ![] bcast_S_S8x8 (constantI S_ 32 8#32)))
    (constantI S_ 32 2147483647#32) reducesTo_S8x8_S8_d1 h_S_

/-- The largest selected expert, or −1 if none is. -/
def last (u : IVec S8 1) : IVec S_ 32 :=
  Host.reduce IntOp.maxsi
    (select u (iotaInDim S8 32 0) (broadcastInDim S8 ![] bcast_S_S8 (constantI S_ 32 4294967295#32)))
    (constantI S_ 32 2147483648#32) reducesTo_S8_S_d0 h_S_

/-- The schedule of the selected experts: the selected experts in ascending order, the last one
    repeated, then how many there are. -/
def sched (u : IVec S8 1) : IVec S9 32 :=
  concatenate S9 0 [⟨S8, minsi (kth u) (broadcastInDim S8 ![] bcast_S_S8 (last u))⟩,
    ⟨S1, broadcastInDim S1 ![] bcast_S_S1 (cnt u)⟩] concatenates_S8_S1_S9_d0

/-- A set of experts from its eight bits. -/
def ofMask (b : Fin 256) : IVec S8 1 := fun j => BitVec.ofBool (b.val.testBit (j 0).val)

/-- The place of expert-schedule entry `e`. -/
def at9 (e : Fin 9) : S9.Idx := fun a => ⟨e.val, by fin_cases a; exact e.isLt⟩

/-- The schedule of the set with bits `b` is as it should be. -/
def Good (b : Fin 256) : Prop :=
  let s : Fin 9 → BitVec 32 := fun e => sched (ofMask b) (at9 e)
  (∀ e : Fin 8, (s e.castSucc).toNat < 8) ∧ 1 ≤ (s 8).toNat ∧ (s 8).toNat ≤ 8 ∧
    ∀ k : Fin 8, b.val.testBit k.val = true →
      ∃ p : Fin 8, p.val < (s 8).toNat ∧ (s p.castSucc).toNat = k.val ∧
        ∀ e : Fin 8, e.val < (s 8).toNat → (s e.castSucc).toNat = k.val → e = p

instance (b : Fin 256) : Decidable (Good b) := by unfold Good; infer_instance

/-- Every nonempty set has the schedule it should have. -/
theorem good : ∀ b : Fin 256, b.val ≠ 0 → Good b := by decide +kernel

end Cert.Router
-- ==== Proof.RouterFacts.lean ====
module

public import proofs.«01_k».proof.Proof.Router
public import proofs.«01_k».proof.Proof.Gen.Pre_in_range
public import Idealize.ShloMosaic.Lib.ReduceAll
public import Idealize.ShloMosaic.Lib.Pointwise
public import Idealize.ShloMosaic.Lib.Pipeline.Value

@[expose] public section

namespace Cert.Router

open Idealize.ShloMosaic Cert.KernelIdeal Cert.KernelIdeal.Facts₀

/-- Every set of experts is one of the 256 masks. -/
theorem exists_mask (u : IVec S8 1) : ∃ b : Fin 256, ofMask b = u := by
  let f : Fin 8 → Bool := fun k => u (fun a => ⟨k.val, by fin_cases a; exact k.isLt⟩) == 1#1
  refine ⟨⟨Nat.ofBits f, Nat.ofBits_lt_two_pow f⟩, funext fun j => ?_⟩
  have hj : (j 0).val < 8 := (j 0).isLt
  unfold ofMask
  show BitVec.ofBool ((Nat.ofBits f).testBit (j 0).val) = u j
  rw [Nat.testBit_ofBits_lt f _ hj]
  show BitVec.ofBool (u _ == 1#1) = u j
  have e : (fun a => ⟨(j 0).val, by fin_cases a; exact hj⟩ : S8.Idx) = j := funext fun a => by fin_cases a; rfl
  rw [e]
  generalize u j = w
  revert w; decide

theorem foldl_ori_one {ι : Type} (f : ι → BitVec 1) : ∀ (l : List ι) (init : BitVec 1), (init = 1#1 ∨ ∃ n ∈ l, f n = 1#1) →
    l.foldl (fun a n => IntOp.ori a (f n)) init = 1#1
  | [], init, h => by
    rcases h with h | ⟨n, hn, -⟩
    · exact h
    · exact absurd hn (List.not_mem_nil)
  | n :: l, init, h => by
    refine foldl_ori_one f l _ ?_
    have key : ∀ a b : BitVec 1, (a = 1#1 ∨ b = 1#1) → IntOp.ori a b = 1#1 := by unfold IntOp.ori; decide
    rcases h with h | ⟨k, hk, e⟩
    · exact .inl (key _ _ (.inl h))
    · rcases List.mem_cons.1 hk with rfl | hk
      · exact .inl (key _ _ (.inr e))
      · exact .inr ⟨k, hk, e⟩

/-- An expert some token selects is among the used ones. -/
theorem used_one (ei : IVec S8x2 32) (t : Fin 8) (r : Fin 2) (k : Fin 8) (h : ei (ix2 t r) = BitVec.ofNat 32 k.val) :
    used ei (ix1 k) = 1#1 := by
  unfold used
  rw [Host.reduce_eq_foldl]
  refine foldl_ori_one _ _ _ (.inr ⟨ix3 (n0 := 8) (n1 := 2) (n2 := 8) t r k, ?_, ?_⟩)
  · rw [List.mem_filter]
    refine ⟨List.mem_map.2 ⟨S8x2x8.rowMajor (ix3 t r k), List.mem_finRange _, Equiv.symm_apply_apply _ _⟩, ?_⟩
    simp only [decide_eq_true_eq]
    funext a; fin_cases a; rfl
  · show IntOp.cmpi .eq _ _ = 1#1
    rw [show broadcastInDim S8x2x8 ![0, 1, 2] bcast_S8x2x1_S8x2x8_0_1_2 (broadcastInDim S8x2x1 ![0, 1] bcast_S8x2_S8x2x1_0_1 ei) (ix3 t r k) = ei (ix2 t r) from
      congrArg ei (funext fun a => by fin_cases a <;> rfl), h]
    show IntOp.cmpi .eq (BitVec.ofNat 32 k.val) (BitVec.ofNat 32 k.val) = 1#1
    simp [IntOp.cmpi]

/-- The schedule of in-range choices: its first eight words name experts, its last counts between one and eight, and every
    choice is at exactly one place before the count. -/
theorem sched_good (ei : IVec S8x2 32) (hr : ∀ t r, (ei (ix2 (n0 := 8) (n1 := 2) t r)).toNat < 8) :
    (∀ e : Fin 8, (sched (used ei) (at9 e.castSucc)).toNat < 8) ∧ 1 ≤ (sched (used ei) (at9 8)).toNat ∧ (sched (used ei) (at9 8)).toNat ≤ 8 ∧
      ∀ t r, ∃ p : Fin 8, p.val < (sched (used ei) (at9 8)).toNat ∧ sched (used ei) (at9 p.castSucc) = ei (ix2 (n0 := 8) (n1 := 2) t r) ∧
        ∀ e : Fin 8, e.val < (sched (used ei) (at9 8)).toNat → sched (used ei) (at9 e.castSucc) = ei (ix2 (n0 := 8) (n1 := 2) t r) → e = p := by
  obtain ⟨b, hb⟩ := exists_mask (used ei)
  have hbit : ∀ t r, b.val.testBit (ei (ix2 (n0 := 8) (n1 := 2) t r)).toNat = true := fun t r => by
    have h1 := used_one ei t r ⟨_, hr t r⟩ (BitVec.eq_of_toNat_eq (by simp))
    rw [← hb] at h1
    have h2 : BitVec.ofBool (b.val.testBit (ei (ix2 (n0 := 8) (n1 := 2) t r)).toNat) = 1#1 := h1
    cases hx : b.val.testBit (ei (ix2 (n0 := 8) (n1 := 2) t r)).toNat
    · rw [hx] at h2; exact absurd h2 (by decide)
    · rfl
  have h0 : b.val ≠ 0 := fun h0 => by
    have := hbit 0 0
    rw [h0] at this; simp at this
  obtain ⟨g1, g2, g3, g4⟩ := good b h0
  rw [hb] at g1 g2 g3 g4
  refine ⟨g1, g2, g3, fun t r => ?_⟩
  obtain ⟨p, hp, hk, hu⟩ := g4 ⟨_, hr t r⟩ (hbit t r)
  exact ⟨p, hp, BitVec.eq_of_toNat_eq hk, fun e he hs => hu e he (congrArg BitVec.toNat hs)⟩

/-- The precondition says that every expert index is at least 0 and below 8. -/
theorem in_range {F : FTy → Type} [FloatOps F] (x : FVec F Pre_in_range.S8x1024 .f32) (ei : IVec S8x2 32)
    (wg wu : FVec F Pre_in_range.S8x2048x1024 .f32) (wd : FVec F Pre_in_range.S8x1024x2048 .f32)
    (h : Pre_in_range.fn x ei wg wu wd = fun _ => 1#1) (t : Fin 8) (r : Fin 2) : (ei (ix2 (n0 := 8) (n1 := 2) t r)).toNat < 8 := by
  have h1 := congrFun h (fun a => a.elim0)
  unfold Pre_in_range.fn at h1
  have : Subsingleton Pre_in_range.S_.Idx := ⟨fun _ _ => funext fun a => a.elim0⟩
  have h2 := Host.reduce_andi_all _ _ _ _ _ h1 (ix2 (n0 := 8) (n1 := 2) t r)
  have h3 : IntOp.andi (IntOp.cmpi .sge (ei (ix2 (n0 := 8) (n1 := 2) t r)) 0#32) (IntOp.cmpi .slt (ei (ix2 (n0 := 8) (n1 := 2) t r)) 8#32) = 1#1 := h2
  generalize ei (ix2 (n0 := 8) (n1 := 2) t r) = w at h3
  have key : ∀ a b : Bool, IntOp.andi (BitVec.ofBool a) (BitVec.ofBool b) = 1#1 → a = true ∧ b = true := by unfold IntOp.andi; decide
  obtain ⟨k1, k2⟩ := key _ _ h3
  unfold BitVec.sle at k1
  unfold BitVec.slt at k2
  simp only [decide_eq_true_eq] at k1 k2
  have e0 : (0#32 : BitVec 32).toInt = 0 := by decide
  have e8 : (8#32 : BitVec 32).toInt = 8 := by decide
  rw [e0] at k1; rw [e8] at k2
  rw [BitVec.toInt_eq_toNat_cond] at k1 k2
  split at k1 <;> omega

end Cert.Router
-- ==== Proof.KernelIdeal.Runs.lean ====
module

public import proofs.«01_k».proof.Defs
public import proofs.«01_k».proof.Proof.Gen.KernelIdeal.Skeleton
public import proofs.«01_k».proof.Proof.Gen.KernelIdeal.Launch
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic

@[expose] public section

set_option maxRecDepth 16384
set_option Elab.async false

noncomputable section

namespace Cert.KernelIdeal.Own

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The schedule table as the kernel body is handed it. -/
abbrev tab : Memref sig .tc .smem S9 .i32 := Memref.whole main_call0_v29

/-- The count word the body reads from the table, at the table's contents `T`. -/
abbrev cntW (T : S9.Idx → Elt F .i32) : BitVec 32 :=
  View.readAt (Elt F) tab.view (Rect.unit (s := S9) ![8] S1.size inb_S9_S1_8).toLoadRect T (Shape.Idx.first (numel1_S1.symm ▸ Nat.one_pos))

/-- The expert word the body reads from the table at grid point `i`. -/
abbrev expW (T : S9.Idx → Elt F .i32) (i : grid0.Coords) : BitVec 32 :=
  View.readAt (Elt F) tab.view (Rect.unit (s := S9) (k0_off2 i) S1.size (k0_off2_inb i)).toLoadRect T (Shape.Idx.first (numel1_S1.symm ▸ Nat.one_pos))

section
variable (c : Dev nD) (i : grid0.Coords)
  (arg3 : Memref sig .tc .vmem S8x1024 .f32) (harg3 : arg3.IsWhole) (arg4 : Memref sig .tc .vmem S8x2 .i32) (harg4 : arg4.IsWhole)
  (arg5 : Memref sig .tc .vmem S1x2048x1024 .f32) (harg5 : arg5.IsWhole) (arg6 : Memref sig .tc .vmem S1x2048x1024 .f32) (harg6 : arg6.IsWhole)
  (arg7 : Memref sig .tc .vmem S1x1024x2048 .f32) (harg7 : arg7.IsWhole) (arg8 : Memref sig .tc .vmem S16x1024 .f32) (harg8 : arg8.IsWhole)
  (T : S9.Idx → Elt F .i32) (x : S8x1024.Idx → Elt F .f32) (ei : S8x2.Idx → Elt F .i32) (wg wu : S1x2048x1024.Idx → Elt F .f32)
  (wd : S1x1024x2048.Idx → Elt F .f32)

/-- What the body holds besides the output's staging buffer: the five input blocks and the table. -/
abbrev ins : sProp 𝕄 :=
  iprop((arg3.view.loc (c : Thread nD τ) ↦[arg3.view.set]{fullShare} arg3.view.rep x)
    ∗ (arg4.view.loc (c : Thread nD τ) ↦[arg4.view.set]{fullShare} arg4.view.rep ei)
    ∗ (arg5.view.loc (c : Thread nD τ) ↦[arg5.view.set]{fullShare} arg5.view.rep wg)
    ∗ (arg6.view.loc (c : Thread nD τ) ↦[arg6.view.set]{fullShare} arg6.view.rep wu)
    ∗ (arg7.view.loc (c : Thread nD τ) ↦[arg7.view.set]{fullShare} arg7.view.rep wd)
    ∗ (tab.view.loc (c : Thread nD τ) ↦{fullShare} T))

set_option maxHeartbeats 8000000 in
/-- At a point past the last selected expert the body changes nothing. -/
theorem run_idle (h1 : ¬(k0_cond1 i = 1#1)) (h2 : ¬(k0_cond2 i (cntW (F := F) T) = 1#1)) (y : S16x1024.Idx → Elt F .f32) (K : PUnit → sProp 𝕄) :
    iprop(ins c arg3 arg4 arg5 arg6 arg7 T x ei wg wu wd ∗ owns (c : Thread nD τ) arg8 fullShare y
        ∗ (iprop(ins c arg3 arg4 arg5 arg6 arg7 T x ei wg wu wd ∗ owns (c : Thread nD τ) arg8 fullShare y) -∗ K ⟨⟩))
      ⊢ wp frame (wpE (defs₀ (F := F)) Variants.none c none) Set.univ
          (cc0__ffn_body i tab (Memref.isWhole_whole _) arg3 harg3 arg4 harg4 arg5 harg5 arg6 harg6 arg7 harg7 arg8 harg8) K := by
  unfold ins owns
  rw [cc0__ffn_body_eq_skeleton]; unfold cc0__ffn_body_skel
  iintro ⟨⟨H0, H1, H2, H3, H4, HT⟩, ⟨%f, %hf, HO⟩, Hk⟩
  obtain rfl := harg8.eq_unread hf
  have hT : (tab : Memref sig .tc .smem S9 .i32).IsWhole := Memref.isWhole_whole _
  sl_exec! (disch := first | (guard_target = ¬(k0_cond1 _ = _); exact h1) | (guard_target = ¬(k0_cond2 _ _ = _); exact h2))
  sl_step
  iapply Hk
  isplitl [H0 H1 H2 H3 H4 HT]
  · isplitl [H0]; · iexact H0
    isplitl [H1]; · iexact H1
    isplitl [H2]; · iexact H2
    isplitl [H3]; · iexact H3
    isplitl [H4]; · iexact H4
    iexact HT
  iexists _; isplitr; · ipureintro; exact harg8.read_unread _
  iexact HO

set_option backward.proofsInPublic true in
set_option maxHeartbeats 8000000 in
/-- At the first point the body leaves the pieces found here in the output's buffer, whatever it held. -/
def runFirst (h1 : k0_cond1 i = 1#1) (h2 : k0_cond2 i (cntW (F := F) T) = 1#1) :
    { out : List (View.Piece (Elt F) S16x1024 .f32) //
      ∀ K : PUnit → sProp 𝕄,
        iprop(ins c arg3 arg4 arg5 arg6 arg7 T x ei wg wu wd ∗ (∃ d, owns (c : Thread nD τ) arg8 fullShare d)
            ∗ (iprop(ins c arg3 arg4 arg5 arg6 arg7 T x ei wg wu wd
                ∗ (∃ f, arg8.view.loc (c : Thread nD τ) ↦[arg8.view.set]{fullShare} arg8.view.writes (Elt F) f out)) -∗ K ⟨⟩))
          ⊢ wp frame (wpE (defs₀ (F := F)) Variants.none c none) Set.univ
              (cc0__ffn_body i tab (Memref.isWhole_whole _) arg3 harg3 arg4 harg4 arg5 harg5 arg6 harg6 arg7 harg7 arg8 harg8) K } :=
  ⟨_, fun K => by
    unfold ins owns
    rw [cc0__ffn_body_eq_skeleton]; unfold cc0__ffn_body_skel
    rw [k0_part1_eq_skeleton]; unfold k0_part1_skel
    iintro ⟨⟨H0, H1, H2, H3, H4, HT⟩, ⟨%d, %f, -, HO⟩, Hk⟩
    have hT : (tab : Memref sig .tc .smem S9 .i32).IsWhole := Memref.isWhole_whole _
    sl_exec! (disch := first | (guard_target = k0_cond1 _ = _; exact h1) | (guard_target = k0_cond2 _ _ = _; exact h2))
    sl_step
    iapply Hk
    isplitl [H0 H1 H2 H3 H4 HT]
    · isplitl [H0]; · iexact H0
      isplitl [H1]; · iexact H1
      isplitl [H2]; · iexact H2
      isplitl [H3]; · iexact H3
      isplitl [H4]; · iexact H4
      iexact HT
    iexists _; iexact HO⟩

set_option backward.proofsInPublic true in
set_option maxHeartbeats 8000000 in
/-- At a later active point the body writes the pieces found here over the buffer's contents `y`. -/
def runNext (h1 : ¬(k0_cond1 i = 1#1)) (h2 : k0_cond2 i (cntW (F := F) T) = 1#1) (y : S16x1024.Idx → Elt F .f32) :
    { out : List (View.Piece (Elt F) S16x1024 .f32) //
      ∀ K : PUnit → sProp 𝕄,
        iprop(ins c arg3 arg4 arg5 arg6 arg7 T x ei wg wu wd ∗ owns (c : Thread nD τ) arg8 fullShare y
            ∗ (iprop(ins c arg3 arg4 arg5 arg6 arg7 T x ei wg wu wd
                ∗ (∃ f, arg8.view.loc (c : Thread nD τ) ↦[arg8.view.set]{fullShare} arg8.view.writes (Elt F) f out)) -∗ K ⟨⟩))
          ⊢ wp frame (wpE (defs₀ (F := F)) Variants.none c none) Set.univ
              (cc0__ffn_body i tab (Memref.isWhole_whole _) arg3 harg3 arg4 harg4 arg5 harg5 arg6 harg6 arg7 harg7 arg8 harg8) K } :=
  ⟨_, fun K => by
    unfold ins owns
    rw [cc0__ffn_body_eq_skeleton]; unfold cc0__ffn_body_skel
    rw [k0_part1_eq_skeleton]; unfold k0_part1_skel
    iintro ⟨⟨H0, H1, H2, H3, H4, HT⟩, ⟨%f, %hf, HO⟩, Hk⟩
    obtain rfl := harg8.eq_unread hf
    have hT : (tab : Memref sig .tc .smem S9 .i32).IsWhole := Memref.isWhole_whole _
    sl_exec! (disch := first | (guard_target = ¬(k0_cond1 _ = _); exact h1) | (guard_target = k0_cond2 _ _ = _; exact h2))
    sl_step
    iapply Hk
    isplitl [H0 H1 H2 H3 H4 HT]
    · isplitl [H0]; · iexact H0
      isplitl [H1]; · iexact H1
      isplitl [H2]; · iexact H2
      isplitl [H3]; · iexact H3
      isplitl [H4]; · iexact H4
      iexact HT
    iexists _; iexact HO⟩

end

end Cert.KernelIdeal.Own

end
-- ==== Proof.KernelIdeal.Step.lean ====
module

public import proofs.«01_k».proof.Proof.KernelIdeal.Runs
public import Idealize.ShloMosaic.Lib.Pointwise
public import Idealize.ShloMosaic.Lib.WritesUnit
public import Idealize.ShloMosaic.Lib.VecWindow
public import Idealize.ShloMosaic.Lib.Pipeline.Value

@[expose] public section

set_option maxRecDepth 16384
set_option Elab.async false

noncomputable section

namespace Cert.KernelIdeal.Own

open Cert.KernelIdeal Cert.KernelIdeal.Gen
open Idealize.ShloMosaic

variable {F : FTy → Type} [FloatOps F]

/-- The float the kernel adds for a token that does not select the expert. -/
abbrev zeroF : F .f32 := Scalar.ofBits .f32 0x00000000#32

/-- What one active grid point does to the accumulator `acc`: row `8·a + t` gains the expert's
    output for token `t` where the token's `a`-th expert index is the word `e`, and zero elsewhere. -/
def stepAcc (e : BitVec 32) (x : FVec F S8x1024 .f32) (ei : IVec S8x2 32) (wg wu : FVec F S1x2048x1024 .f32)
    (wd : FVec F S1x1024x2048 .f32) (acc : FVec F S16x1024 .f32) : FVec F S16x1024 .f32 := fun j =>
  FloatOps.addf (acc j)
    (if ei (ix2 (n0 := 8) (n1 := 2) ⟨(j 0).val % 8, Nat.mod_lt _ (by decide)⟩ ⟨(j 0).val / 8, by have : (j 0).val < 16 := (j 0).isLt; omega⟩) = e
      then k0_pay3 x wg wu wd (ix2 (n0 := 8) (n1 := 1024) ⟨(j 0).val % 8, Nat.mod_lt _ (by decide)⟩ ⟨(j 1).val, (j 1).isLt⟩)
      else zeroF)

theorem select_eq_word {α : Type} (a b : BitVec 32) (u v : α) :
    Scalar.select (IntOp.cmpi .eq a b) u v = if a = b then u else v := by
  unfold Scalar.select IntOp.cmpi
  by_cases h : a = b
  · subst h; simp
  · have h' : (a == b) = false := by simpa using h
    simp [h, h']

/-- Rows 8–15 of a list whose newest piece is those rows. -/
theorem read_hi (v : View sig .tc .vmem S16x1024 .f32) (f : v.ty.Contents (Elt F)) (w : S8x1024.Idx → Elt F .f32)
    (L : List (View.Piece (Elt F) S16x1024 .f32)) (j : S16x1024.Idx) (t : Fin 8) (l : Fin 1024)
    (h0 : (j 0).val = 8 + t.val) (h1 : (j 1).val = l.val) :
    v.read (Elt F) (v.writes (Elt F) f ((⟨Rect.unit ![8, 0] S8x1024.size inb_S16x1024_S8x1024_8_0, w⟩ : View.Piece (Elt F) S16x1024 .f32) :: L)) j
      = w (ix2 t l) :=
  View.read_writes_cons_rows_of_mem (off := ![8, 0]) (size := S8x1024.size) (o := 8) v f inb_S16x1024_S8x1024_8_0 w L j (ix2 t l) rfl h0 h1

/-- Rows 0–7 of a list whose newest piece is rows 8–15 and whose next is rows 0–7. -/
theorem read_lo (v : View sig .tc .vmem S16x1024 .f32) (f : v.ty.Contents (Elt F)) (w : S8x1024.Idx → Elt F .f32)
    (L : List (View.Piece (Elt F) S16x1024 .f32)) (j : S16x1024.Idx) (t : Fin 8) (l : Fin 1024)
    (h0 : (j 0).val = t.val) (h1 : (j 1).val = l.val) :
    v.read (Elt F) (v.writes (Elt F) f ((⟨Rect.unit ![0, 0] S8x1024.size inb_S16x1024_S8x1024_0_0, w⟩ : View.Piece (Elt F) S16x1024 .f32) :: L)) j
      = w (ix2 t l) :=
  View.read_writes_cons_rows_of_mem (off := ![0, 0]) (size := S8x1024.size) (o := 0) v f inb_S16x1024_S8x1024_0_0 w L j (ix2 t l) rfl (by rw [Nat.zero_add]; exact h0) h1

theorem read_skip_hi (v : View sig .tc .vmem S16x1024 .f32) (f : v.ty.Contents (Elt F)) (w : S8x1024.Idx → Elt F .f32)
    (L : List (View.Piece (Elt F) S16x1024 .f32)) (j : S16x1024.Idx) (h0 : (j 0).val < 8) :
    v.read (Elt F) (v.writes (Elt F) f ((⟨Rect.unit ![8, 0] S8x1024.size inb_S16x1024_S8x1024_8_0, w⟩ : View.Piece (Elt F) S16x1024 .f32) :: L)) j
      = v.read (Elt F) (v.writes (Elt F) f L) j :=
  View.read_writes_cons_rows_of_not_mem (off := ![8, 0]) (size := S8x1024.size) (o := 8) (W := 8) v f inb_S16x1024_S8x1024_8_0 w L j rfl rfl (Or.inl h0)

theorem read_skip_lo (v : View sig .tc .vmem S16x1024 .f32) (f : v.ty.Contents (Elt F)) (w : S8x1024.Idx → Elt F .f32)
    (L : List (View.Piece (Elt F) S16x1024 .f32)) (j : S16x1024.Idx) (h0 : 8 ≤ (j 0).val) :
    v.read (Elt F) (v.writes (Elt F) f ((⟨Rect.unit ![0, 0] S8x1024.size inb_S16x1024_S8x1024_0_0, w⟩ : View.Piece (Elt F) S16x1024 .f32) :: L)) j
      = v.read (Elt F) (v.writes (Elt F) f L) j :=
  View.read_writes_cons_rows_of_not_mem (off := ![0, 0]) (size := S8x1024.size) (o := 0) (W := 8) v f inb_S16x1024_S8x1024_0_0 w L j rfl rfl (Or.inr (by omega))

/-- The load of rows 0–7. -/
theorem load_lo (v : View sig .tc .vmem S16x1024 .f32) (f : v.ty.Contents (Elt F)) (t : Fin 8) (l : Fin 1024) (j : S16x1024.Idx)
    (h0 : (j 0).val = t.val) (h1 : (j 1).val = l.val) :
    v.readAt (Elt F) (Rect.unit (s := S16x1024) ![0, 0] S8x1024.size inb_S16x1024_S8x1024_0_0).toLoadRect f (ix2 t l) = v.read (Elt F) f j :=
  congrArg (v.read (Elt F) f) (funext fun a => Fin.ext (by
    match a with
    | ⟨0, _⟩ => show 0 + 1 * t.val = (j 0).val; omega
    | ⟨1, _⟩ => show 0 + 1 * l.val = (j 1).val; omega))

/-- The load of rows 8–15. -/
theorem load_hi (v : View sig .tc .vmem S16x1024 .f32) (f : v.ty.Contents (Elt F)) (t : Fin 8) (l : Fin 1024) (j : S16x1024.Idx)
    (h0 : (j 0).val = 8 + t.val) (h1 : (j 1).val = l.val) :
    v.readAt (Elt F) (Rect.unit (s := S16x1024) ![8, 0] S8x1024.size inb_S16x1024_S8x1024_8_0).toLoadRect f (ix2 t l) = v.read (Elt F) f j :=
  congrArg (v.read (Elt F) f) (funext fun a => Fin.ext (by
    match a with
    | ⟨0, _⟩ => show 8 + 1 * t.val = (j 0).val; omega
    | ⟨1, _⟩ => show 0 + 1 * l.val = (j 1).val; omega))

/-- The load of one column of the index block. -/
theorem load_col0 (v : View sig .tc .vmem S8x2 .i32) (ei : S8x2.Idx → Elt F .i32) (t : Fin 8) :
    v.readAt (Elt F) (Rect.unit (s := S8x2) ![0, 0] S8x1.size inb_S8x2_S8x1_0_0).toLoadRect (v.rep ei) (ix2 (n0 := 8) (n1 := 1) t 0) = ei (ix2 t 0) := by
  refine (congrFun (View.read_rep v ei) _).trans (congrArg ei (funext fun a => Fin.ext ?_))
  match a with
  | ⟨0, _⟩ => show 0 + 1 * t.val = t.val; omega
  | ⟨1, _⟩ => rfl

theorem load_col1 (v : View sig .tc .vmem S8x2 .i32) (ei : S8x2.Idx → Elt F .i32) (t : Fin 8) :
    v.readAt (Elt F) (Rect.unit (s := S8x2) ![0, 1] S8x1.size inb_S8x2_S8x1_0_1).toLoadRect (v.rep ei) (ix2 (n0 := 8) (n1 := 1) t 0) = ei (ix2 t 1) := by
  refine (congrFun (View.read_rep v ei) _).trans (congrArg ei (funext fun a => Fin.ext ?_))
  match a with
  | ⟨0, _⟩ => show 0 + 1 * t.val = t.val; omega
  | ⟨1, _⟩ => rfl

/-- The step at a row of the first half. -/
theorem stepAcc_lo (e : BitVec 32) (x : FVec F S8x1024 .f32) (ei : IVec S8x2 32) (wg wu : FVec F S1x2048x1024 .f32)
    (wd : FVec F S1x1024x2048 .f32) (acc : FVec F S16x1024 .f32) (j : S16x1024.Idx) (t : Fin 8) (l : Fin 1024)
    (h0 : (j 0).val = t.val) (h1 : (j 1).val = l.val) :
    stepAcc e x ei wg wu wd acc j = FloatOps.addf (acc j) (if ei (ix2 t 0) = e then k0_pay3 x wg wu wd (ix2 t l) else zeroF) := by
  unfold stepAcc
  have a0 : (⟨(j 0).val % 8, Nat.mod_lt _ (by decide)⟩ : Fin 8) = t := Fin.ext (by have := t.isLt; show (j 0).val % 8 = _; omega)
  have a1 : (⟨(j 1).val, (j 1).isLt⟩ : Fin 1024) = l := Fin.ext h1
  have a2 : (⟨(j 0).val / 8, by have : (j 0).val < 16 := (j 0).isLt; omega⟩ : Fin 2) = 0 := Fin.ext (by have := t.isLt; show (j 0).val / 8 = 0; omega)
  rw [a0, a1, a2]

/-- The step at a row of the second half. -/
theorem stepAcc_hi (e : BitVec 32) (x : FVec F S8x1024 .f32) (ei : IVec S8x2 32) (wg wu : FVec F S1x2048x1024 .f32)
    (wd : FVec F S1x1024x2048 .f32) (acc : FVec F S16x1024 .f32) (j : S16x1024.Idx) (t : Fin 8) (l : Fin 1024)
    (h0 : (j 0).val = 8 + t.val) (h1 : (j 1).val = l.val) :
    stepAcc e x ei wg wu wd acc j = FloatOps.addf (acc j) (if ei (ix2 t 1) = e then k0_pay3 x wg wu wd (ix2 t l) else zeroF) := by
  unfold stepAcc
  have a0 : (⟨(j 0).val % 8, Nat.mod_lt _ (by decide)⟩ : Fin 8) = t := Fin.ext (by have := t.isLt; show (j 0).val % 8 = _; omega)
  have a1 : (⟨(j 1).val, (j 1).isLt⟩ : Fin 1024) = l := Fin.ext h1
  have a2 : (⟨(j 0).val / 8, by have : (j 0).val < 16 := (j 0).isLt; omega⟩ : Fin 2) = 1 := Fin.ext (by have := t.isLt; show (j 0).val / 8 = 1; omega)
  rw [a0, a1, a2]

/-- The rows 0–7 payload at an index. -/
theorem pay4_apply (x : FVec F S8x1024 .f32) (wg wu : FVec F S1x2048x1024 .f32) (wd : FVec F S1x1024x2048 .f32)
    (col : IVec S8x1 32) (e : BitVec 32) (old : FVec F S8x1024 .f32) (t : Fin 8) (l : Fin 1024) :
    k0_pay4 x wg wu wd col e old (ix2 t l)
      = FloatOps.addf (old (ix2 t l)) (if col (ix2 (n0 := 8) (n1 := 1) t 0) = e then k0_pay3 x wg wu wd (ix2 t l) else zeroF) := by
  unfold k0_pay4
  rw [shapeCast_id, shapeCast_id, addf_apply]
  refine congrArg (FloatOps.addf _) ?_
  show Scalar.select (broadcastTo S8x1024 _ _ _) _ _ = _
  rw [broadcastTo_apply _ _ _ (ix2 (n0 := 8) (n1 := 1) t 0) (by intro a; fin_cases a <;> rfl)]
  exact select_eq_word _ _ _ _

/-- The rows 8–15 payload at an index. -/
theorem pay2_apply (y : FVec F S8x1024 .f32) (col : IVec S8x1 32) (e : BitVec 32) (old : FVec F S8x1024 .f32) (t : Fin 8) (l : Fin 1024) :
    k0_pay2 y (k0_pay5 (F := F) col e) (k0_pay6 old) zeroF (ix2 t l)
      = FloatOps.addf (old (ix2 t l)) (if col (ix2 (n0 := 8) (n1 := 1) t 0) = e then y (ix2 t l) else zeroF) := by
  unfold k0_pay2 k0_pay5 k0_pay6
  rw [shapeCast_id, shapeCast_id, addf_apply]
  refine congrArg (FloatOps.addf _) ?_
  show Scalar.select (broadcastTo S8x1024 _ _ _) _ _ = _
  rw [broadcastTo_apply _ _ _ (ix2 (n0 := 8) (n1 := 1) t 0) (by intro a; fin_cases a <;> rfl)]
  exact select_eq_word _ _ _ _

section
variable (c : Dev nD) (i : grid0.Coords)
  (arg3 : Memref sig .tc .vmem S8x1024 .f32) (harg3 : arg3.IsWhole) (arg4 : Memref sig .tc .vmem S8x2 .i32) (harg4 : arg4.IsWhole)
  (arg5 : Memref sig .tc .vmem S1x2048x1024 .f32) (harg5 : arg5.IsWhole) (arg6 : Memref sig .tc .vmem S1x2048x1024 .f32) (harg6 : arg6.IsWhole)
  (arg7 : Memref sig .tc .vmem S1x1024x2048 .f32) (harg7 : arg7.IsWhole) (arg8 : Memref sig .tc .vmem S16x1024 .f32) (harg8 : arg8.IsWhole)
  (T : S9.Idx → Elt F .i32) (x : S8x1024.Idx → Elt F .f32) (ei : S8x2.Idx → Elt F .i32) (wg wu : S1x2048x1024.Idx → Elt F .f32)
  (wd : S1x1024x2048.Idx → Elt F .f32)

/-- The two halves written at a later point are the accumulator's step. -/
theorem next_read (h1 : ¬(k0_cond1 i = 1#1)) (h2 : k0_cond2 i (cntW (F := F) T) = 1#1) (y : S16x1024.Idx → Elt F .f32)
    (f : arg8.view.ty.Contents (Elt F)) :
    arg8.view.read (Elt F) (arg8.view.writes (Elt F) f
        (runNext c i arg3 harg3 arg4 harg4 arg5 harg5 arg6 harg6 arg7 harg7 arg8 harg8 T x ei wg wu wd h1 h2 y).1)
      = stepAcc (expW (F := F) T i) x ei wg wu wd y := by
  funext j
  have e0 : (j 0).val < 16 := (j 0).isLt
  have e1 : (j 1).val < 1024 := (j 1).isLt
  show arg8.view.read (Elt F) (arg8.view.writes (Elt F) f (runNext.sl.HO_2 c i arg3 arg4 arg5 arg6 arg7 arg8 harg8 T x ei wg wu wd y)) j = _
  unfold runNext.sl.HO_2 runNext.sl.v40 runNext.sl.cst_25 runNext.sl.r_1
  rw [View.readAt_rep_full, View.readAt_rep_full, View.readAt_rep_full, View.readAt_rep_full]
  by_cases hj : (j 0).val < 8
  · rw [read_skip_hi _ _ _ _ _ hj, read_lo _ _ _ _ j ⟨(j 0).val, hj⟩ ⟨(j 1).val, e1⟩ rfl rfl, pay4_apply, load_col0,
      load_lo _ _ ⟨(j 0).val, hj⟩ ⟨(j 1).val, e1⟩ j rfl rfl, harg8.read_unread, stepAcc_lo _ _ _ _ _ _ _ j ⟨(j 0).val, hj⟩ ⟨(j 1).val, e1⟩ rfl rfl]
  · have hr : (j 0).val = 8 + ((j 0).val - 8) := by omega
    rw [read_hi _ _ _ _ j ⟨(j 0).val - 8, by omega⟩ ⟨(j 1).val, e1⟩ hr rfl, pay2_apply, load_col1,
      load_hi _ _ ⟨(j 0).val - 8, by omega⟩ ⟨(j 1).val, e1⟩ j hr rfl, harg8.read_unread, stepAcc_hi _ _ _ _ _ _ _ j ⟨(j 0).val - 8, by omega⟩ ⟨(j 1).val, e1⟩ hr rfl]

/-- The three pieces written at the first point are the step from an all-zero accumulator. -/
theorem first_read (h1 : k0_cond1 i = 1#1) (h2 : k0_cond2 i (cntW (F := F) T) = 1#1) (f : arg8.view.ty.Contents (Elt F)) :
    arg8.view.read (Elt F) (arg8.view.writes (Elt F) f
        (runFirst c i arg3 harg3 arg4 harg4 arg5 harg5 arg6 harg6 arg7 harg7 arg8 harg8 T x ei wg wu wd h1 h2).1)
      = stepAcc (expW (F := F) T i) x ei wg wu wd (fun _ => zeroF) := by
  funext j
  have e0 : (j 0).val < 16 := (j 0).isLt
  have e1 : (j 1).val < 1024 := (j 1).isLt
  have hz : ∀ g, arg8.view.read (Elt F) (arg8.view.writes (Elt F) g (runFirst.sl.HO_1 (F := F))) j = zeroF := fun g => by
    unfold runFirst.sl.HO_1
    rw [View.read_writes_full]; rfl
  show arg8.view.read (Elt F) (arg8.view.writes (Elt F) f (runFirst.sl.HO_3 c i arg3 arg4 arg5 arg6 arg7 arg8 T x ei wg wu wd)) j = _
  unfold runFirst.sl.HO_3
  by_cases hj : (j 0).val < 8
  · rw [read_skip_hi _ _ _ _ _ hj]
    unfold runFirst.sl.HO_2 runFirst.sl.v27 runFirst.sl.r_1
    rw [View.readAt_rep_full, View.readAt_rep_full, View.readAt_rep_full, View.readAt_rep_full]
    rw [read_lo _ _ _ _ j ⟨(j 0).val, hj⟩ ⟨(j 1).val, e1⟩ rfl rfl, pay4_apply, load_col0]
    unfold View.readCov
    rw [load_lo _ _ ⟨(j 0).val, hj⟩ ⟨(j 1).val, e1⟩ j rfl rfl, hz, stepAcc_lo _ _ _ _ _ _ _ j ⟨(j 0).val, hj⟩ ⟨(j 1).val, e1⟩ rfl rfl]
  · have hr : (j 0).val = 8 + ((j 0).val - 8) := by omega
    unfold runFirst.sl.v40 runFirst.sl.r_1 runFirst.sl.cst_25
    rw [View.readAt_rep_full, View.readAt_rep_full, View.readAt_rep_full, View.readAt_rep_full]
    rw [read_hi _ _ _ _ j ⟨(j 0).val - 8, by omega⟩ ⟨(j 1).val, e1⟩ hr rfl, pay2_apply, load_col1]
    unfold View.readCov
    rw [load_hi _ _ ⟨(j 0).val - 8, by omega⟩ ⟨(j 1).val, e1⟩ j hr rfl]
    unfold runFirst.sl.HO_2
    rw [read_skip_lo _ _ _ _ _ (by omega), hz, stepAcc_hi _ _ _ _ _ _ _ j ⟨(j 0).val - 8, by omega⟩ ⟨(j 1).val, e1⟩ hr rfl]

end

end Cert.KernelIdeal.Own

end
-- ==== Proof.KernelIdeal.Pipe.lean ====
module

public import proofs.«01_k».proof.Proof.KernelIdeal.Step

@[expose] public section

set_option maxRecDepth 16384
set_option Elab.async false

noncomputable section

namespace Cert.KernelIdeal.Own

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (a : (pcfg0 (F := F)).Adm)

/-- The pipeline at the table `a`. -/
abbrev cfgA : Pipeline.Cfg sig Λ₀ := cfg0 (F := F) a
/-- The program's one pipeline, at the table `a`. -/
abbrev pcs : Fin 1 → Pipeline.Cfg sig Λ₀ := Pipeline.pin (pcfgs (F := F)) fun _ => a
/-- The table itself, nine words. -/
abbrev tabOf : S9.Idx → Elt F .i32 := a.1 0

/-- Point `t`'s coordinates. -/
abbrev crd (t : Fin (cfgA a).N) : (cfgA a).grid.Coords := (cfgA a).grid.coords t

/-- The buffers the six windows stand in at point `t`. -/
abbrev b0 (t : Fin (cfgA a).N) : Memref sig .tc .vmem S8x1024 .f32 := spec0_0.stage ((cfgA a).slots t (0 : Fin 6))
abbrev w0 (t : Fin (cfgA a).N) : (b0 a t).IsWhole := hstage0_0 (((cfgA a).slots t (0 : Fin 6)).cast nbuf0_0)
abbrev b1 (t : Fin (cfgA a).N) : Memref sig .tc .vmem S8x2 .i32 := spec0_1.stage ((cfgA a).slots t (1 : Fin 6))
abbrev w1 (t : Fin (cfgA a).N) : (b1 a t).IsWhole := hstage0_1 (((cfgA a).slots t (1 : Fin 6)).cast nbuf0_1)
abbrev b2 (t : Fin (cfgA a).N) : Memref sig .tc .vmem S1x2048x1024 .f32 := spec0_2.stage ((cfgA a).slots t (2 : Fin 6))
abbrev w2 (t : Fin (cfgA a).N) : (b2 a t).IsWhole := hstage0_2 (((cfgA a).slots t (2 : Fin 6)).cast nbuf0_2)
abbrev b3 (t : Fin (cfgA a).N) : Memref sig .tc .vmem S1x2048x1024 .f32 := spec0_3.stage ((cfgA a).slots t (3 : Fin 6))
abbrev w3 (t : Fin (cfgA a).N) : (b3 a t).IsWhole := hstage0_3 (((cfgA a).slots t (3 : Fin 6)).cast nbuf0_3)
abbrev b4 (t : Fin (cfgA a).N) : Memref sig .tc .vmem S1x1024x2048 .f32 := spec0_4.stage ((cfgA a).slots t (4 : Fin 6))
abbrev w4 (t : Fin (cfgA a).N) : (b4 a t).IsWhole := hstage0_4 (((cfgA a).slots t (4 : Fin 6)).cast nbuf0_4)
abbrev b5 (t : Fin (cfgA a).N) : Memref sig .tc .vmem S16x1024 .f32 := spec0_5.stage ((cfgA a).slots t (5 : Fin 6))
abbrev w5 (t : Fin (cfgA a).N) : (b5 a t).IsWhole := hstage0_5 (((cfgA a).slots t (5 : Fin 6)).cast nbuf0_5)

/-- Point `t` is active: it lies before the count in the table's last word. -/
abbrev Active (t : Fin (cfgA a).N) : Prop := k0_cond2 (crd a t) (cntW (F := F) (tabOf a)) = 1#1

/-! ## The schedule, which the table does not move -/

theorem cond1_iff (t : Fin (cfgA a).N) : k0_cond1 (crd a t) = 1#1 ↔ t.val = 0 :=
  (by decide : ∀ t : Fin grid0.N, k0_cond1 (grid0.coords t) = 1#1 ↔ t.val = 0) t

theorem flush5 (t : Fin (cfgA a).N) : ((cfgA a).win (5 : Fin 6)).flush t = decide (t.val = 7) := by
  have h : t.val < 8 := t.isLt
  obtain ⟨n, hn⟩ := t
  have : n < 8 := h
  interval_cases n <;> rfl

theorem idle5 (t : Fin (cfgA a).N) : (cfgA a).idle (5 : Fin 6) (crd a t) = (!(k0_cond1 (crd a t) == 1#1) && !(k0_cond2 (crd a t) (cntW (F := F) (tabOf a)) == 1#1)) := rfl

theorem idle_active {t : Fin (cfgA a).N} (h : Active a t) : (cfgA a).idle (5 : Fin 6) (crd a t) = false := by
  rw [idle5, h]; simp

theorem idle_inactive {t : Fin (cfgA a).N} (h : ¬ Active a t) (h0 : t.val ≠ 0) : (cfgA a).idle (5 : Fin 6) (crd a t) = true := by
  have h1 : ¬ (k0_cond1 (crd a t) = 1#1) := fun h' => h0 ((cond1_iff a t).1 h')
  rw [idle5]; simp [h, h1]

/-- The output's buffer holds nothing of the kernel's before the first point, and something before every later one. -/
theorem fresh5 (hz : ∀ t, t.val = 0 → Active a t) (t : Fin (cfgA a).N) : (cfgA a).fresh (5 : Fin 6) t.val = decide (t.val = 0) := by
  have e := Pipeline.Cfg.fresh_tab (cfgA a) (5 : Fin 6) (fun n => decide (n = 0) || decide (n = 8)) rfl (fun t => by
    have h : t.val < 8 := t.isLt
    show (decide (t.val + 1 = 0) || decide (t.val + 1 = 8)) = (((cfgA a).win (5 : Fin 6)).flush t || ((cfgA a).idle (5 : Fin 6) (crd a t) && (decide (t.val = 0) || decide (t.val = 8))))
    rw [flush5]
    by_cases h0 : t.val = 0
    · rw [idle_active a (hz t h0)]; simp [h0]
    · have : ¬ t.val = 8 := by omega
      simp [h0, this]) t.val (Nat.le_of_lt t.isLt)
  rw [e]
  have h : t.val < 8 := t.isLt
  have : ¬ t.val = 8 := by omega
  simp [this]

/-! ## What the accumulator holds after each point -/

variable (V : Dev nD → Valuation τ sig (Elt F))

/-- Window `w`'s block at point `t`, of the arrays as the region finds them. -/
def iblk (c : Dev nD) (w : Fin (cfgA a).W) (t : Fin (cfgA a).N) : (((cfgA a).win w).xblock (crd a t)).Idx → Elt F ((cfgA a).win w).elt :=
  (((cfgA a).win w).blk t).view.read (Elt F) (V c (Proc.devRef .tc (Pipeline.arrRef spec0 w)))

/-- One point's step: an active point adds its expert's rows, from zero at the first; another leaves the accumulator. -/
def step (c : Dev nD) (t : Fin (cfgA a).N) (prev : S16x1024.Idx → Elt F .f32) : S16x1024.Idx → Elt F .f32 :=
  if Active a t then
    stepAcc (expW (F := F) (tabOf a) (crd a t)) (iblk a V c (0 : Fin 6) t) (iblk a V c (1 : Fin 6) t) (iblk a V c (2 : Fin 6) t)
      (iblk a V c (3 : Fin 6) t) (iblk a V c (4 : Fin 6) t) (if t.val = 0 then fun _ => zeroF else prev)
  else prev

/-- The accumulator after the points up to `n`. -/
def traj (c : Dev nD) : (n : ℕ) → n < (cfgA a).N → (S16x1024.Idx → Elt F .f32)
  | 0, h => step a V c ⟨0, h⟩ (fun _ => zeroF)
  | n + 1, h => step a V c ⟨n + 1, h⟩ (traj c n (Nat.lt_of_succ_lt h))

/-- The accumulator before point `t`. -/
def prev (c : Dev nD) (t : Fin (cfgA a).N) : S16x1024.Idx → Elt F .f32 :=
  if h : t.val = 0 then fun _ => zeroF else traj a V c (t.val - 1) (by omega)

theorem traj_eq (c : Dev nD) (t : Fin (cfgA a).N) : traj a V c t.val t.isLt = step a V c t (prev a V c t) := by
  obtain ⟨n, hn⟩ := t
  cases n with
  | zero => rfl
  | succ n => unfold prev; simp only [Nat.add_one_ne_zero, dif_neg, not_false_eq_true]; rfl

/-- Between points the body keeps the table. -/
def Inv (c : Dev nD) : sProp 𝕄 := iprop(tab.view.loc (c : Thread nD τ) ↦{fullShare} tabOf a)

/-- The pipeline's proof data on core `c`. -/
def dats (_ : Fin 1) (c : Dev nD) : Dat τ (Elt F) Unit ℕ (UR sig nD τ) ℕ (cfgA a) c where
  A w := V c (Proc.devRef .tc (Pipeline.arrRef spec0 w))
  after w t := match w with
    | ⟨0, _⟩ => iblk a V c (0 : Fin 6) t
    | ⟨1, _⟩ => iblk a V c (1 : Fin 6) t
    | ⟨2, _⟩ => iblk a V c (2 : Fin 6) t
    | ⟨3, _⟩ => iblk a V c (3 : Fin 6) t
    | ⟨4, _⟩ => iblk a V c (4 : Fin 6) t
    | ⟨5, _⟩ => traj a V c t.val t.isLt
  Φ _ := Inv a c
  q _ := fullShare
  owed _ := 0

theorem after0 (c : Dev nD) (t : Fin (cfgA a).N) : (dats a V 0 c).after (0 : Fin 6) t = iblk a V c (0 : Fin 6) t := rfl
theorem after1 (c : Dev nD) (t : Fin (cfgA a).N) : (dats a V 0 c).after (1 : Fin 6) t = iblk a V c (1 : Fin 6) t := rfl
theorem after2 (c : Dev nD) (t : Fin (cfgA a).N) : (dats a V 0 c).after (2 : Fin 6) t = iblk a V c (2 : Fin 6) t := rfl
theorem after3 (c : Dev nD) (t : Fin (cfgA a).N) : (dats a V 0 c).after (3 : Fin 6) t = iblk a V c (3 : Fin 6) t := rfl
theorem after4 (c : Dev nD) (t : Fin (cfgA a).N) : (dats a V 0 c).after (4 : Fin 6) t = iblk a V c (4 : Fin 6) t := rfl
theorem after5 (c : Dev nD) (t : Fin (cfgA a).N) : (dats a V 0 c).after (5 : Fin 6) t = traj a V c t.val t.isLt := rfl

/-- An input's buffer holds its block when the body runs. -/
theorem before0 (c : Dev nD) (t : Fin (cfgA a).N) (d) : (dats a V 0 c).before (0 : Fin 6) t d = iblk a V c (0 : Fin 6) t :=
  ((dats a V 0 c).before_in_eq_fetched (0 : Fin 6) rfl (fun _ => rfl) (fun _ _ _ => rfl) (fun t => by rw [after0]; unfold Dat.blockOf iblk; rfl) t d).trans
    (by unfold Dat.fetched Dat.blockOf iblk; rfl)
theorem before1 (c : Dev nD) (t : Fin (cfgA a).N) (d) : (dats a V 0 c).before (1 : Fin 6) t d = iblk a V c (1 : Fin 6) t :=
  ((dats a V 0 c).before_in_eq_fetched (1 : Fin 6) rfl (fun _ => rfl) (fun _ _ _ => rfl) (fun t => by rw [after1]; unfold Dat.blockOf iblk; rfl) t d).trans
    (by unfold Dat.fetched Dat.blockOf iblk; rfl)
theorem before2 (c : Dev nD) (t : Fin (cfgA a).N) (d) : (dats a V 0 c).before (2 : Fin 6) t d = iblk a V c (2 : Fin 6) t :=
  ((dats a V 0 c).before_in_eq_fetched (2 : Fin 6) rfl (fun _ => rfl) (fun _ _ _ => rfl) (fun t => by rw [after2]; unfold Dat.blockOf iblk; rfl) t d).trans
    (by unfold Dat.fetched Dat.blockOf iblk; rfl)
theorem before3 (c : Dev nD) (t : Fin (cfgA a).N) (d) : (dats a V 0 c).before (3 : Fin 6) t d = iblk a V c (3 : Fin 6) t :=
  ((dats a V 0 c).before_in_eq_fetched (3 : Fin 6) rfl (fun _ => rfl) (fun _ _ _ => rfl) (fun t => by rw [after3]; unfold Dat.blockOf iblk; rfl) t d).trans
    (by unfold Dat.fetched Dat.blockOf iblk; rfl)
theorem before4 (c : Dev nD) (t : Fin (cfgA a).N) (d) : (dats a V 0 c).before (4 : Fin 6) t d = iblk a V c (4 : Fin 6) t :=
  ((dats a V 0 c).before_in_eq_fetched (4 : Fin 6) rfl (fun _ => rfl) (fun _ _ _ => rfl) (fun t => by rw [after4]; unfold Dat.blockOf iblk; rfl) t d).trans
    (by unfold Dat.fetched Dat.blockOf iblk; rfl)

/-- A point that stores nothing leaves the accumulator as the point before left it. -/
theorem carry5 (c : Dev nD) (hz : ∀ t, t.val = 0 → Active a t) : ∀ (t : Fin (cfgA a).N) (ht : t.val ≠ 0), (cfgA a).idle (5 : Fin 6) ((cfgA a).grid.coords t) = true → (cfgA a).fresh (5 : Fin 6) t.val = false →
    (dats a V 0 c).after (5 : Fin 6) t = (dats a V 0 c).after (5 : Fin 6) ⟨t.val - 1, by omega⟩ := by
  intro t ht hi hf
  have hn : ¬ Active a t := fun h => by rw [show (cfgA a).idle (5 : Fin 6) ((cfgA a).grid.coords t) = _ from idle_active a h] at hi; exact absurd hi (by decide)
  rw [after5, after5, traj_eq]
  unfold step prev
  rw [if_neg hn, dif_neg ht]

/-- The output's buffer when the body runs: anything at the first point, later what the point before left. -/
theorem before5 (c : Dev nD) (hz : ∀ t, t.val = 0 → Active a t) (t : Fin (cfgA a).N) (d) :
    (dats a V 0 c).before (5 : Fin 6) t d = if t.val = 0 then d else prev a V c t := by
  rw [(dats a V 0 c).before_out_traj (5 : Fin 6) rfl (fun _ _ => rfl) (carry5 a V c hz) t.val t rfl d, fresh5 a hz]
  by_cases h0 : t.val = 0
  · simp only [h0, decide_true, ↓reduceIte]
  · simp only [h0, decide_false, Bool.false_eq_true, ↓reduceIte, after5]; unfold prev; rw [dif_neg h0]

/-! ## The body at each point -/

/-- The body at point `t`, on the buffers the windows stand in. -/
abbrev bodyAt (t : Fin (cfgA a).N) : Prog (TpuEff nD τ sig (Elt F) Λ₀ .tc) PUnit :=
  cc0__ffn_body (crd a t) tab (Memref.isWhole_whole _) (b0 a t) (w0 a t) (b1 a t) (w1 a t) (b2 a t) (w2 a t) (b3 a t) (w3 a t) (b4 a t) (w4 a t) (b5 a t) (w5 a t)

set_option maxHeartbeats 4000000 in
/-- The body at point `t` keeps its blocks, the table and the accumulator's account. -/
theorem sound_body (hz : ∀ t, t.val = 0 → Active a t) (c : Dev nD) (t : Fin (cfgA a).N) :
    iprop((dats a V 0 c).Φ t.castSucc ∗ (dats a V 0 c).owesAt () t.castSucc
        ∗ (∃ d, owns (c : Thread nD τ) (b0 a t) fullShare ((dats a V 0 c).before (0 : Fin 6) t d))
        ∗ (∃ d, owns (c : Thread nD τ) (b1 a t) fullShare ((dats a V 0 c).before (1 : Fin 6) t d))
        ∗ (∃ d, owns (c : Thread nD τ) (b2 a t) fullShare ((dats a V 0 c).before (2 : Fin 6) t d))
        ∗ (∃ d, owns (c : Thread nD τ) (b3 a t) fullShare ((dats a V 0 c).before (3 : Fin 6) t d))
        ∗ (∃ d, owns (c : Thread nD τ) (b4 a t) fullShare ((dats a V 0 c).before (4 : Fin 6) t d))
        ∗ (∃ d, owns (c : Thread nD τ) (b5 a t) fullShare ((dats a V 0 c).before (5 : Fin 6) t d)))
      ⊢ wp frame (wpE (defs₀ (F := F)) Variants.none c none) Set.univ (bodyAt a t) fun _ =>
          iprop((dats a V 0 c).Φ t.succ ∗ (dats a V 0 c).owesAt () t.succ
            ∗ bigSep Finset.univ fun w : Fin (cfgA a).W =>
                match (cfgA a).idle w ((cfgA a).grid.coords t) with
                | true =>
                  match ((cfgA a).win w).flush t with
                  | false => iprop(∃ d, owns (c : Thread nD τ) (((cfgA a).win w).stage ((cfgA a).slots t w)) fullShare ((dats a V 0 c).before w t d))
                  | true => owns (c : Thread nD τ) (((cfgA a).win w).stage ((cfgA a).slots t w)) fullShare ((dats a V 0 c).after w t)
                | false => owns (c : Thread nD τ) (((cfgA a).win w).stage ((cfgA a).slots t w)) fullShare ((dats a V 0 c).after w t)) := by
  rw [bigSep_W0]
  by_cases hA : Active a t
  · rewrite [show (cfgA a).idle (5 : Fin 6) ((cfgA a).grid.coords t) = false from idle_active a hA]
    simp only [before0, before1, before2, before3, before4, before5 a V c hz, after0, after1, after2, after3, after4, after5]
    rewrite [show (dats a V 0 c).Φ t.succ = Inv a c from rfl, show (dats a V 0 c).Φ t.castSucc = Inv a c from rfl,
      show (dats a V 0 c).owesAt () t.succ = (dats a V 0 c).owesAt () t.castSucc from rfl, traj_eq]
    unfold Inv step
    rw [if_pos hA]
    by_cases h0 : t.val = 0
    · simp only [h0, ↓reduceIte]
      iintro ⟨HT, Ho, ⟨%d0, H0⟩, ⟨%d1, H1⟩, ⟨%d2, H2⟩, ⟨%d3, H3⟩, ⟨%d4, H4⟩, ⟨%d5, H5⟩⟩
      iapply ((runFirst c (crd a t) (b0 a t) (w0 a t) (b1 a t) (w1 a t) (b2 a t) (w2 a t) (b3 a t) (w3 a t) (b4 a t) (w4 a t) (b5 a t) (w5 a t) (tabOf a) (iblk a V c (0 : Fin 6) t) (iblk a V c (1 : Fin 6) t) (iblk a V c (2 : Fin 6) t) (iblk a V c (3 : Fin 6) t) (iblk a V c (4 : Fin 6) t) ((cond1_iff a t).2 h0) hA).2 _)
      unfold ins
      isplitl [H0 H1 H2 H3 H4 HT]
      · isplitl [H0]; · iapply rep_of_owns; iexact H0
        isplitl [H1]; · iapply rep_of_owns; iexact H1
        isplitl [H2]; · iapply rep_of_owns; iexact H2
        isplitl [H3]; · iapply rep_of_owns; iexact H3
        isplitl [H4]; · iapply rep_of_owns; iexact H4
        iexact HT
      isplitl [H5]; · iexists _; iexact H5
      iintro ⟨⟨H0, H1, H2, H3, H4, HT⟩, ⟨%e5, H5⟩⟩
      isplitl [HT]; · iexact HT
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      isplitl [H4]; · iapply owns_of_rep; iexact H4
      unfold owns; iexists _; isplitr; swap
      · iexact H5
      · ipureintro
        exact first_read c (crd a t) (b0 a t) (w0 a t) (b1 a t) (w1 a t) (b2 a t) (w2 a t) (b3 a t) (w3 a t) (b4 a t) (w4 a t) (b5 a t) (w5 a t) (tabOf a) _ _ _ _ _ _ _ _
    · simp only [h0, ↓reduceIte]
      iintro ⟨HT, Ho, ⟨%d0, H0⟩, ⟨%d1, H1⟩, ⟨%d2, H2⟩, ⟨%d3, H3⟩, ⟨%d4, H4⟩, ⟨%d5, H5⟩⟩
      iapply ((runNext c (crd a t) (b0 a t) (w0 a t) (b1 a t) (w1 a t) (b2 a t) (w2 a t) (b3 a t) (w3 a t) (b4 a t) (w4 a t) (b5 a t) (w5 a t) (tabOf a) (iblk a V c (0 : Fin 6) t) (iblk a V c (1 : Fin 6) t) (iblk a V c (2 : Fin 6) t) (iblk a V c (3 : Fin 6) t) (iblk a V c (4 : Fin 6) t) (fun h => h0 ((cond1_iff a t).1 h)) hA (prev a V c t)).2 _)
      unfold ins
      isplitl [H0 H1 H2 H3 H4 HT]
      · isplitl [H0]; · iapply rep_of_owns; iexact H0
        isplitl [H1]; · iapply rep_of_owns; iexact H1
        isplitl [H2]; · iapply rep_of_owns; iexact H2
        isplitl [H3]; · iapply rep_of_owns; iexact H3
        isplitl [H4]; · iapply rep_of_owns; iexact H4
        iexact HT
      isplitl [H5]; · iexact H5
      iintro ⟨⟨H0, H1, H2, H3, H4, HT⟩, ⟨%e5, H5⟩⟩
      isplitl [HT]; · iexact HT
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      isplitl [H4]; · iapply owns_of_rep; iexact H4
      unfold owns; iexists _; isplitr; swap
      · iexact H5
      · ipureintro
        exact next_read c (crd a t) (b0 a t) (w0 a t) (b1 a t) (w1 a t) (b2 a t) (w2 a t) (b3 a t) (w3 a t) (b4 a t) (w4 a t) (b5 a t) (w5 a t) (tabOf a) _ _ _ _ _ _ _ _ _
  · have h0 : ¬ t.val = 0 := fun h => hA (hz t h)
    have h1 : ¬ (k0_cond1 (crd a t) = 1#1) := fun h => h0 ((cond1_iff a t).1 h)
    rewrite [show (cfgA a).idle (5 : Fin 6) ((cfgA a).grid.coords t) = true from idle_inactive a hA h0]
    cases f5 : ((cfgA a).win (5 : Fin 6)).flush t
    all_goals
      simp only [before0, before1, before2, before3, before4, before5 a V c hz, after0, after1, after2, after3, after4, after5, f5]
      rewrite [show (dats a V 0 c).Φ t.succ = Inv a c from rfl, show (dats a V 0 c).Φ t.castSucc = Inv a c from rfl,
        show (dats a V 0 c).owesAt () t.succ = (dats a V 0 c).owesAt () t.castSucc from rfl]
      try rewrite [traj_eq]
      unfold Inv
      try unfold step
      try rw [if_neg hA]
      simp only [h0, ↓reduceIte]
      iintro ⟨HT, Ho, ⟨%d0, H0⟩, ⟨%d1, H1⟩, ⟨%d2, H2⟩, ⟨%d3, H3⟩, ⟨%d4, H4⟩, ⟨%d5, H5⟩⟩
      iapply (run_idle c (crd a t) (b0 a t) (w0 a t) (b1 a t) (w1 a t) (b2 a t) (w2 a t) (b3 a t) (w3 a t) (b4 a t) (w4 a t) (b5 a t) (w5 a t) (tabOf a) (iblk a V c (0 : Fin 6) t) (iblk a V c (1 : Fin 6) t) (iblk a V c (2 : Fin 6) t) (iblk a V c (3 : Fin 6) t) (iblk a V c (4 : Fin 6) t) h1 hA (prev a V c t) _)
      unfold ins
      isplitl [H0 H1 H2 H3 H4 HT]
      · isplitl [H0]; · iapply rep_of_owns; iexact H0
        isplitl [H1]; · iapply rep_of_owns; iexact H1
        isplitl [H2]; · iapply rep_of_owns; iexact H2
        isplitl [H3]; · iapply rep_of_owns; iexact H3
        isplitl [H4]; · iapply rep_of_owns; iexact H4
        iexact HT
      isplitl [H5]; · iexact H5
      iintro ⟨⟨H0, H1, H2, H3, H4, HT⟩, H5⟩
      isplitl [HT]; · iexact HT
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      isplitl [H4]; · iapply owns_of_rep; iexact H4
      first | (iexists d5; iexact H5) | iexact H5

/-- The pipeline's body obligation. -/
theorem body_ok (hz : ∀ t, t.val = 0 → Active a t) (c : Dev nD) : BodyObligation (dats a V 0 c) (defs₀ (F := F)) Variants.none () Set.univ := fun t => by
  rw [bigSep_W0]
  exact sound_body a V hz c t

end Cert.KernelIdeal.Own

end
-- ==== Proof.KernelIdeal.Run.lean ====
module

public import proofs.«01_k».proof.Proof.KernelIdeal.Pipe
public import Idealize.ShloMosaic.Lib.Pipeline.Regions
public import Idealize.ShloMosaic.Lib.Pipeline.RegionArraysTS
public import Idealize.ShloMosaic.Lib.Pipeline.FrameTail

@[expose] public section

set_option maxRecDepth 16384
set_option Elab.async false

noncomputable section

namespace Cert.KernelIdeal.Own

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf ucRefs sub_ucRefs)

variable {F : FTy → Type} [FloatOps F]

local notation "𝕄" => MT nD τ sig Unit (Elt F) ℕ (UR sig nD τ) ℕ

variable (m : (ℓ : Loc nD τ sig) → Buf (Elt F) ℓ) (g : Dev nD → PrngReg)

/-- Core `c`'s buffers at launch. -/
abbrev V₀ (c : Dev nD) : Valuation τ sig (Elt F) := StableHlo.launchContents m c
/-- Core `c`'s buffers when the kernel is entered: the schedule has been computed. -/
def V₁ (c : Dev nD) : Valuation τ sig (Elt F) := StableHlo.after hostOps0 (V₀ m c)

variable (a : (pcfg0 (F := F)).Adm)

/-- Core `c`'s buffers when the kernel has run. -/
def V₂ (c : Dev nD) : Valuation τ sig (Elt F) := Pipeline.afterRegion (dats a (V₁ m) 0 c) (V₁ m c)

/-- The pairs with a level: the one index at every counter of a TensorCore. -/
abbrev Lv : GSem nD τ sig → Finset Unit := fun g => if g.1.2 = .tc then {()} else ∅
abbrev lv : GSem nD τ sig → Unit → ℕ := fun _ _ => 0

/-- Beside the buffers rides only that the core owes nothing. -/
abbrev Rest (c : Dev nD) : sProp 𝕄 :=
  iprop((∃ W, owes (c : Thread nD τ) (0 : CellTallies nD τ sig Unit) W) ∗ (BI.emp : sProp 𝕄) ∗ (BI.emp : sProp 𝕄))

/-- The schedule's computation. -/
def seg0 : Pipeline.HostSeg (Name := ℕ) (U := UR sig nD τ) (pcfgs (F := F)) defs₀ Variants.none Lv lv :=
  Pipeline.HostSeg.ofOps _ _ _ _ _ (ucRefs τ sig) hostOps0 (fun op h => sub_ucRefs op ((List.forall_iff_forall_mem.mp hostOps0_sub) op h))
    (by intro _ h; (repeat (cases h with | head => rfl | tail _ h => ?_)); exact nomatch h) (V₀ m) Rest

/-- The reshape and transposition of the accumulator. -/
def seg1 : Pipeline.HostSeg (Name := ℕ) (U := UR sig nD τ) (pcfgs (F := F)) defs₀ Variants.none Lv lv :=
  Pipeline.HostSeg.ofOps _ _ _ _ _ (ucRefs τ sig) hostOps1 (fun op h => sub_ucRefs op ((List.forall_iff_forall_mem.mp hostOps1_sub) op h))
    (by intro _ h; (repeat (cases h with | head => rfl | tail _ h => ?_)); exact nomatch h) (V₂ m a) Rest

theorem share_full (c : Dev nD) (w : Fin (cfgA a).W) : (dats a (V₁ m) 0 c).share w = fullShare := by unfold Dat.share; split <;> rfl

/-- The one table, as the region holds it. -/
theorem tables_eq (c : Dev nD) :
    (Pipeline.tablesAt (Ix := Unit) (Name := ℕ) (U := UR sig nD τ) (Lvl := ℕ) (pcfgs (F := F)) (fun _ => a) 0 c : sProp 𝕄) = Inv a c := by
  unfold Pipeline.tablesAt Pipeline.prefHeld Inv
  rw [show (Finset.univ : Finset (Fin 1)) = {(0 : Fin 1)} from by decide, bigSep_singleton]
  rfl

set_option backward.isDefEq.respectTransparency.types false in
/-- The kernel, between the two stretches of host operations. -/
def reg (hz : ∀ t, t.val = 0 → Active a t) (hT : ∀ c, a.1 0 = V₁ m c (Proc.devRef .tc main_call0_v29)) :
    Pipeline.RegionSeg (pcfgs (F := F)) (fun _ => a) (dats a (V₁ m)) () defs₀ Variants.none Lv lv 0 :=
  Pipeline.RegionSeg.ofHeldInT (pcfgs (F := F)) (fun _ => a) (dats a (V₁ m)) () defs₀ Variants.none Lv lv 0 (fun _ => 0) (ucRefs τ sig)
    (fun _ => (BI.emp : sProp 𝕄)) (fun _ => (BI.emp : sProp 𝕄)) launch0
    (fun c => (body_ok a (V₁ m) hz c).loose) (fun _ _ => rfl) (fun _ => rfl) (fun c w => share_full m a c w)
    (fun c => by
      rw [tables_eq, show (dats a (V₁ m) 0 c).Φ 0 = Inv a c from rfl]
      iintro ⟨-, H⟩; iexact H)
    (fun c => by
      rw [tables_eq, show (dats a (V₁ m) 0 c).Φ (Fin.last _) = Inv a c from rfl,
        show (Pipeline.scopedRest (Pipeline.pin (pcfgs (F := F)) (fun _ => a) 0).spec c : sProp 𝕄) = BI.emp from scopedRest0_eq c]
      iintro H
      isplitr
      · isplitr <;> iempintro
      iexact H)
    (fun _ => 0)
    { hι := fun c w s => by
        show () ∈ (if _ then _ else _)
        rw [if_pos rfl]; exact Finset.mem_singleton_self _
      hιb := fun c w s => le_refl _
      hD := fun c g i h => absurd h (lt_irrefl _) }
    (fun _ => (BI.emp : sProp 𝕄)) (V₁ m) (fun c w => rfl)
    (fun c k => by have : k = 0 := Subsingleton.elim _ _; subst this; exact hT c)

abbrev segs (hz : ∀ t, t.val = 0 → Active a t) (hT : ∀ c, a.1 0 = V₁ m c (Proc.devRef .tc main_call0_v29)) :
    List (Pipeline.Seg (pcfgs (F := F)) (fun _ => a) (dats a (V₁ m)) () defs₀ Variants.none Lv lv) :=
  [.host (seg0 m), .region (reg m a hz hT), .host (seg1 m a)]

/-- The launch element of the pipeline's counters. -/
def u₀ : UR sig nD τ :=
  initOf (Pipeline.cells (pcs a) ((launch0 (F := F)).cellOf_inj fun _ => a))
    (Pipeline.launchToks (pcs a) ((launch0 (F := F)).cellOf_inj fun _ => a))

theorem arr_sub : Pipeline.arrRefs (τ := τ) (pcfgs (F := F) 0).spec ⊆ ucRefs τ sig := Pipeline.arrRefs_sub_ucRefs _ (launch0 (F := F)).win.arr_unscoped
theorem tbl_sub : Pipeline.tblRefs (τ := τ) (pcfgs (F := F) 0).pre ⊆ ucRefs τ sig := Pipeline.tblRefs_sub_ucRefs _ (launch0 (F := F)).pre.unscoped

theorem link0 (c : Dev nD) : iprop(StableHlo.held (c.tc : Thread nD τ) (ucRefs τ sig) (V₀ m c) ∗ Rest c) ⊢ (seg0 m).pre c := .rfl

theorem link1 (hz : ∀ t, t.val = 0 → Active a t) (hT : ∀ c, a.1 0 = V₁ m c (Proc.devRef .tc main_call0_v29)) (c : Dev nD) :
    (seg0 m).post c ⊢ (reg m a hz hT).pre c := by
  show iprop(StableHlo.held (c.tc : Thread nD τ) (ucRefs τ sig) (V₁ m c) ∗ Rest c) ⊢ _
  unfold reg
  exact Pipeline.RegionSeg.ofHeldInT_pre (X := fun _ => (BI.emp : sProp 𝕄)) (R := fun _ => (BI.emp : sProp 𝕄)) (D := fun _ => 0) (W := V₁ m) arr_sub tbl_sub c

theorem link2 (hz : ∀ t, t.val = 0 → Active a t) (hT : ∀ c, a.1 0 = V₁ m c (Proc.devRef .tc main_call0_v29)) (c : Dev nD) :
    (reg m a hz hT).post c ⊢ (seg1 m a).pre c := by
  show _ ⊢ iprop(StableHlo.held (c.tc : Thread nD τ) (ucRefs τ sig) (V₂ m a c) ∗ Rest c)
  unfold reg
  exact Pipeline.RegionSeg.ofHeldInT_post arr_sub tbl_sub c

theorem link3 (c : Dev nD) : (seg1 m a).post c
    ⊢ iprop(StableHlo.held (c.tc : Thread nD τ) (ucRefs τ sig) (StableHlo.after hostOps1 (V₂ m a c)) ∗ ∃ W, owes (c.tc : Thread nD τ) (0 : CellTallies nD τ sig Unit) W) := by
  show iprop(StableHlo.held (c.tc : Thread nD τ) (ucRefs τ sig) (StableHlo.after hostOps1 (V₂ m a c)) ∗ Rest c) ⊢ _
  iintro ⟨Hh, HO, -, -⟩
  isplitl [Hh] <;> iassumption

set_option backward.isDefEq.respectTransparency.types false in
/-- The program's run: every unscoped buffer ends at what the two host stretches and the kernel compute, every counter at zero. -/
theorem run_main (hz : ∀ t, t.val = 0 → Active a t) (hT : ∀ c, a.1 0 = V₁ m c (Proc.devRef .tc main_call0_v29)) :
    θ_run (defs (F := F)) (onTc (τ := τ) (main (F := F))) ⟨m, fun _ => 0, g⟩ fun r =>
      (∀ (c : Dev nD) (b : Ref sig .tc), b.isScoped = false →
        r.2.mem ((c.tc : Thread nD τ).loc b) = StableHlo.after hostOps1 (V₂ m a c) (Proc.devRef .tc b)) ∧ r.2.sem = fun _ => 0 :=
  Pipeline.θ_run_regions_kit_sems (pcfgs (F := F)) (fun _ => a) (dats a (V₁ m)) () ((launch0 (F := F)).cellOf_inj fun _ => a) emb₁ defs₀ Variants.none Lv lv m g main
    (segs m a hz hT)
    (fun c Q => by rw [main_segs (fun _ => a) (dats a (V₁ m)) () Variants.none Lv lv (seg0 m) (seg1 m a) (reg m a hz hT) rfl rfl c])
    (by simp only [Pipeline.Seg.pipes_host, Pipeline.Seg.pipes_region, Pipeline.Seg.pipes_nil]; decide)
    (O₀ := 0) (hL := fun g h => if_neg h) (G := fun _ => iprop(emp)) (u₀ := u₀ a)
    (hu₀ := by
      unfold u₀
      iintro Hu; imodintro
      isplitl [Hu]
      · iapply (show (ownU _ : sProp 𝕄) ⊢ BI.own (emb₁ (initOf (Pipeline.cells (pcs a) ((launch0 (F := F)).cellOf_inj fun _ => a))
          (Pipeline.launchToks (pcs a) ((launch0 (F := F)).cellOf_inj fun _ => a)))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c.tc : Thread nD τ) (ucRefs τ sig) (V₀ m c) ∗ Rest c))
    (Tₙ := fun c => StableHlo.held (c.tc : Thread nD τ) (ucRefs τ sig) (StableHlo.after hostOps1 (V₂ m a c)))
    (hch := ⟨link0 m, link1 m a hz hT, link2 m a hz hT, link3 m a⟩)
    (hinit := by
      refine Pipeline.initEach Lv lv fun c => ?_
      rw [show unscopedBufs c (fun b => m ((c.tc : Thread nD τ).loc b)) = StableHlo.held (c.tc : Thread nD τ) (ucRefs τ sig) (V₀ m c)
          from Pipeline.unscopedBufs_held (Ix := Unit) (Name := ℕ) (U := UR sig nD τ) (Lvl := ℕ) c (V₀ m c)]
      iintro ⟨⟨Hh, -, HO, -, -, -⟩, -⟩
      imodintro
      isplitl [Hh]; · iexact Hh
      isplitl [HO]; · iexists ∅; iexact HO
      isplitr <;> iempintro)
    (QY := fun c s => ∀ b ∈ ucRefs τ sig, s.mem ((c.tc : Thread nD τ).1, b) = StableHlo.after hostOps1 (V₂ m a c) b)
    (hfin := fun c s' => by
      unfold StableHlo.held
      iintro ⟨Hh, HSI⟩
      ihave Hr := (pointsTo_read_all (ucRefs τ sig) (fun b => ((c.tc : Thread nD τ).1, b)) (StableHlo.after hostOps1 (V₂ m a c)) s') $$ [Hh HSI]
      · isplitl [Hh] <;> iassumption
      imodintro; iexact Hr)
    (hQ := fun _ h hz => ⟨fun c b hb => h c (Proc.devRef .tc b) (Pipeline.devRef_mem_ucRefs hb), funext fun g => hz g (.inr (by revert g; decide))⟩)

end Cert.KernelIdeal.Own

end
-- ==== Proof.KernelIdeal.Table.lean ====
module

public import proofs.«01_k».proof.Proof.KernelIdeal.Run
public import proofs.«01_k».proof.Proof.RouterFacts
public import Idealize.ShloMosaic.Lib.StableHlo

@[expose] public section

set_option maxRecDepth 16384
set_option Elab.async false

noncomputable section

namespace Cert.KernelIdeal.Own

open Cert.KernelIdeal Cert.KernelIdeal.Gen
open Idealize.ShloMosaic
open Idealize.ShloMosaic.TcCoe Idealize.ShloMosaic.Tactic

variable {F : FTy → Type} [FloatOps F]

variable (m : (ℓ : Loc nD τ sig) → Buf (Elt F) ℓ) (c : Dev nD)

/-- The expert choices core `c` is given. -/
abbrev choice : IVec S8x2 32 := m ((c.tc : Thread nD τ).loc main_arg1)

/-- The schedule of the experts core `c`'s tokens select. -/
def schedule : IVec S9 32 := Router.sched (Router.used (choice m c))

set_option maxHeartbeats 4000000 in
/-- The host operations leave the schedule in the table. -/
theorem table_eq : V₁ m c (Proc.devRef .tc main_call0_v29) = schedule m c := by
  unfold V₁ schedule Router.sched Router.kth Router.last Router.isKth Router.cnt Router.cumul Router.used
  simp only [hostOps0, StableHlo.TRef.binary, StableHlo.TRef.nullary, StableHlo.TRef.ternary, StableHlo.TRef.unary, StableHlo.TRef.reshape, StableHlo.TRef.toBuf, StableHlo.TRef.ofBuf, cast_eq]
  after_results_simp
  refine congrArg₂ (fun (x : IVec S8 32) (y : IVec S1 32) => concatenate S9 0 [⟨S8, x⟩, ⟨S1, y⟩] concatenates_S8_S1_S9_d0) ?_ ?_
  all_goals after_results_simp
  rfl

/-- The count word of a table is its last entry, -/
theorem cntW_eq (T : S9.Idx → Elt F .i32) : cntW (F := F) T = T (Router.at9 8) :=
  congrArg T (funext fun a => by fin_cases a; rfl)

/-- and the expert word at point `t` its `t`-th. -/
theorem expW_eq (T : S9.Idx → Elt F .i32) (t : Fin 8) : expW (F := F) T (grid0.coords t) = T (Router.at9 t.castSucc) := by
  refine congrArg T (funext fun a => ?_)
  fin_cases a
  revert t; decide

/-- A table as the launch's prefetch holds it. -/
def contents (T : S9.Idx → Elt F .i32) : pre0.Contents (Elt F) := fun
  | ⟨0, _⟩ => T
  | ⟨_ + 1, h⟩ => absurd h (Nat.not_lt.2 (Nat.le_add_left _ _))

/-- The word the index maps read at point `i`. -/
theorem at_eq (T : S9.Idx → Elt F .i32) (i : grid0.Coords) :
    (contents T).at 0 (Rect.unit (s := S9) (k0_off1 i) S1.size (k0_off1_inb i)) numel1_S1 = T (Router.at9 ⟨(i 1).val, Nat.lt_succ_of_lt (i 1).isLt⟩) := by
  refine congrArg T (funext fun a => ?_)
  fin_cases a
  refine Fin.ext ?_
  revert i
  decide

/-- A table that names experts only selects blocks inside their arrays. -/
theorem ok0_contents (T : S9.Idx → Elt F .i32) (hT : ∀ e : Fin 8, (T (Router.at9 e.castSucc) : BitVec 32).toNat < 8) : ok0 (contents T) := by
  have key : ∀ i : grid0.Coords, ((contents T).at 0 (Rect.unit (s := S9) (k0_off1 i) S1.size (k0_off1_inb i)) numel1_S1 : BitVec 32).toNat < 8 := fun i => by
    rw [at_eq]; exact hT ⟨(i 1).val, (i 1).isLt⟩
  have k0 : ∀ i : grid0.Coords, (BitVec.ofNat 32 (i 0).val).toNat = 0 := by decide
  refine ⟨fun i => ⟨?_, .inl rfl⟩, fun i => ⟨?_, .inl rfl⟩, fun i => ⟨?_, .inl rfl⟩⟩
  all_goals
    have h := key i
    intro a
    fin_cases a
  · show (BitVec.toNat ((contents T).at 0 (Rect.unit (s := S9) (k0_off1 i) S1.size (k0_off1_inb i)) numel1_S1) + 1) * 1 ≤ 8
    omega
  · show ((BitVec.ofNat 32 (i 0).val).toNat + 1) * 2048 ≤ 2048
    rw [k0]
  · show (0 + 1) * 1024 ≤ 1024
    decide
  · show (BitVec.toNat ((contents T).at 0 (Rect.unit (s := S9) (k0_off1 i) S1.size (k0_off1_inb i)) numel1_S1) + 1) * 1 ≤ 8
    omega
  · show ((BitVec.ofNat 32 (i 0).val).toNat + 1) * 2048 ≤ 2048
    rw [k0]
  · show (0 + 1) * 1024 ≤ 1024
    decide
  · show (BitVec.toNat ((contents T).at 0 (Rect.unit (s := S9) (k0_off1 i) S1.size (k0_off1_inb i)) numel1_S1) + 1) * 1 ≤ 8
    omega
  · show (0 + 1) * 1024 ≤ 1024
    decide
  · show ((BitVec.ofNat 32 (i 0).val).toNat + 1) * 2048 ≤ 2048
    rw [k0]

/-- The points before the count are the active ones. -/
theorem cond2_iff (t : Fin 8) (w : BitVec 32) (hw : w.toNat ≤ 8) : k0_cond2 (grid0.coords t) w = 1#1 ↔ t.val < w.toNat := by
  have key : ∀ (n : Fin 9) (t : Fin 8), k0_cond2 (grid0.coords t) (BitVec.ofNat 32 n.val) = 1#1 ↔ t.val < n.val := by decide
  have := key ⟨w.toNat, by omega⟩ t
  rwa [show BitVec.ofNat 32 w.toNat = w from BitVec.eq_of_toNat_eq (by simp)] at this

variable (hr : ∀ t r, (choice m (0 : Dev nD) (ix2 (n0 := 8) (n1 := 2) t r)).toNat < 8)

/-- The schedule, admitted as a table where every choice names an expert. -/
def adm : (pcfg0 (F := F)).Adm := ⟨contents (schedule m 0), ok0_contents _ (Router.sched_good _ hr).1⟩

theorem tabOf_adm : tabOf (adm m hr) = schedule m 0 := rfl

/-- The active points are those before the count of selected experts. -/
theorem active_iff (t : Fin 8) : Active (adm m hr) t ↔ t.val < (schedule m 0 (Router.at9 8)).toNat := by
  unfold Active
  rw [tabOf_adm, cntW_eq]
  exact cond2_iff t _ (Router.sched_good _ hr).2.2.1

/-- The first point is active. -/
theorem active_first (t : Fin (cfgA (adm m hr)).N) (h : t.val = 0) : Active (adm m hr) t :=
  (active_iff m hr t).2 (Nat.lt_of_lt_of_le (h ▸ Nat.one_pos : t.val < 1) (Router.sched_good _ hr).2.1)

theorem adm_table (c : Dev nD) : (adm m hr).1 0 = V₁ m c (Proc.devRef .tc main_call0_v29) := by
  rw [table_eq, Subsingleton.elim c (0 : Dev nD)]
  rfl

end Cert.KernelIdeal.Own

end
-- ==== Proof.KernelIdeal.Final.lean ====
module

public import proofs.«01_k».proof.Proof.KernelIdeal.Table
public import Idealize.ShloMosaic.Lib.Pipeline.ValueKit
public import Idealize.ShloMosaic.Lib.Pipeline.RegionArraysS

@[expose] public section

set_option maxRecDepth 16384
set_option Elab.async false

noncomputable section

namespace Cert.KernelIdeal.Own

open Cert.KernelIdeal Cert.KernelIdeal.Gen
open Idealize.ShloMosaic
open Idealize.ShloMosaic.TcCoe Idealize.ShloMosaic.Tactic

variable {F : FTy → Type} [FloatOps F]

variable (m : (ℓ : Loc nD τ sig) → Buf (Elt F) ℓ) (g : Dev nD → PrngReg)

/-! ## What the program leaves unchanged -/

/-- The kernel's arguments. -/
abbrev IsArg (r : Ref sig .tc) : Prop := r = main_arg0 ∨ r = main_arg1 ∨ r = main_arg2 ∨ r = main_arg3 ∨ r = main_arg4

/-- The schedule's computation writes no argument. -/
theorem args_before (c : Dev nD) {r : Ref sig .tc} (h : IsArg r) : V₁ m c (Proc.devRef .tc r) = m ((c.tc : Thread nD τ).loc r) := by
  unfold V₁
  rcases h with rfl | rfl | rfl | rfl | rfl <;> after_results_simp <;> rfl

variable (a : (pcfg0 (F := F)).Adm)

theorem arr_inj : Function.Injective (Pipeline.arrRef spec0) := by decide

/-- No window writes an argument back. -/
theorem args_region (c : Dev nD) {r : Ref sig .tc} (h : IsArg r) : V₂ m a c (Proc.devRef .tc r) = V₁ m c (Proc.devRef .tc r) := by
  unfold V₂
  refine Pipeline.afterRegion_keeps (dats a (V₁ m) 0 c) (V₁ m c) arr_inj (fun w => rfl) r fun w hw => ?_
  have key : ∀ w : Fin 6, w ≠ 5 → ((cfgA a).win w).isOut = false := fun w hw => by
    fin_cases w <;> first | rfl | exact absurd rfl hw
  refine key w fun e => ?_
  subst e
  rw [← hw] at h
  exact absurd h (show ¬ IsArg main_call0_v30 by decide)

/-- The arguments end as they began. -/
theorem args_after (c : Dev nD) {r : Ref sig .tc} (h : IsArg r) :
    StableHlo.after hostOps1 (V₂ m a c) (Proc.devRef .tc r) = m ((c.tc : Thread nD τ).loc r) := by
  rw [← args_before m c h, ← args_region m a c h]
  rcases h with rfl | rfl | rfl | rfl | rfl <;> after_results_simp

/-! ## What it leaves in the result -/

/-- The last point. -/
abbrev last7 : Fin (cfgA a).N := (7 : Fin 8)

theorem whole5 : ((cfgA a).win (5 : Fin 6)).WholeAt (last7 a) := by
  refine ⟨by rw [flush5]; rfl, fun t ht => ?_, fun k => ?_⟩
  · rw [flush5] at ht
    exact Fin.ext (of_decide_eq_true ht)
  · fin_cases k <;> exact ⟨rfl, rfl⟩

/-- The accumulator after the last point is what the region leaves in its output. -/
theorem out5 (c : Dev nD) : V₂ m a c (Proc.devRef .tc main_call0_v30) = traj a (V₁ m) c 7 (last7 a).isLt := by
  unfold V₂
  refine Eq.trans (show _ = (dats a (V₁ m) 0 c).arrAt (5 : Fin 6) (cfgA a).N from
    Pipeline.afterRegion_arr (dats a (V₁ m) 0 c) (V₁ m c) arr_inj (5 : Fin 6)) ?_
  exact (dats a (V₁ m) 0 c).arrAt_eq_of_after_last (5 : Fin 6) (last7 a) (whole5 a) _ fun j => rfl

/-- The result: the accumulator's sixteen rows, by choice and then by token, read by token and then by choice. -/
def result (c : Dev nD) : S8x2x1024.Idx → Elt F .f32 :=
  transpose S8x2x1024 [1, 0, 2] (shapeCast S2x8x1024 (traj a (V₁ m) c 7 (last7 a).isLt) shapeCasts_S16x1024_S2x8x1024) transposes_S2x8x1024_S8x2x1024_1_0_2

/-- The two operations after the kernel, from any buffers. -/
theorem result_of (V : Valuation τ sig (Elt F)) : StableHlo.after hostOps1 V (Proc.devRef .tc main_v0)
    = transpose S8x2x1024 [1, 0, 2] (shapeCast S2x8x1024 (V (Proc.devRef .tc main_call0_v30)) shapeCasts_S16x1024_S2x8x1024) transposes_S2x8x1024_S8x2x1024_1_0_2 := by
  simp only [hostOps1, StableHlo.TRef.unary, StableHlo.TRef.reshape, StableHlo.TRef.toBuf, StableHlo.TRef.ofBuf, cast_eq]
  after_results_simp
  rfl

theorem result_after (c : Dev nD) : StableHlo.after hostOps1 (V₂ m a c) (Proc.devRef .tc main_v0) = result m a c := by
  rw [result_of, out5]
  rfl

/-! ## The run -/

/-- From in-range choices the program runs; its arguments end as they began, every counter at zero, and its result is
    what the accumulator holds after the last point. -/
theorem run (hr : ∀ t r, (choice m (0 : Dev nD) (ix2 (n0 := 8) (n1 := 2) t r)).toNat < 8) :
    θ_run (defs (F := F)) (onTc (τ := τ) (main (F := F))) ⟨m, fun _ => 0, g⟩ fun s =>
      (∀ c : Dev nD, s.2.mem ((c.tc : Thread nD τ).loc main_v0) = result m (adm m hr) c
        ∧ ∀ r : Ref sig .tc, IsArg r → s.2.mem ((c.tc : Thread nD τ).loc r) = m ((c.tc : Thread nD τ).loc r))
      ∧ s.2.sem = fun _ => 0 :=
  (θ_run _ _ _).mono (fun s h => ⟨fun c => ⟨(h.1 c main_v0 rfl).trans (result_after m _ c), fun r hr' =>
      (h.1 c r (by rcases hr' with rfl | rfl | rfl | rfl | rfl <;> rfl)).trans (args_after m _ c hr')⟩, h.2⟩)
    (run_main m g (adm m hr) (active_first m hr) (adm_table m hr))

end Cert.KernelIdeal.Own

end
-- ==== Proof.Ref.lean ====
module

public import proofs.«01_k».proof.Proof.Gen.ReferenceIdeal.Run
public import Idealize.ShloMosaic.Lib.Pointwise
public import Idealize.ShloMosaic.Lib.Tactic.CleanTypes

@[expose] public section

set_option maxRecDepth 16384
set_option Elab.async false

noncomputable section

namespace Cert.Moe

open Cert.ReferenceIdeal Cert.ReferenceIdeal.Facts₀
open Idealize.ShloMosaic

/-! ## The mathematics -/

/-- Token `t`'s projection by row `h` of expert `k`'s matrix. -/
def proj (x : S8x1024.Idx → EReal) (w : S8x2048x1024.Idx → EReal) (k t : Fin 8) (h : Fin 2048) : EReal :=
  ∑ d : Fin 1024, x (ix2 t d) * w (ix3 k h d)

/-- Expert `k`'s answer to token `t`, at feature `l`: the gated product of the two projections, projected back. -/
def answer (x : S8x1024.Idx → EReal) (wg wu : S8x2048x1024.Idx → EReal) (wd : S8x1024x2048.Idx → EReal) (k t : Fin 8) (l : Fin 1024) : EReal :=
  ∑ h : Fin 2048, proj x wg k t h * Ideal.logistic (proj x wg k t h) * proj x wu k t h * wd (ix3 k l h)

/-! ## The reference's takes -/

/-- The index words a take reads: a negative one has the extent added. -/
def wrapped (ei : IVec S8x2 32) : IVec S8x2x1 32 :=
  broadcastInDim S8x2x1 ![0, 1] bcast_S8x2_S8x2x1_0_1 (select (cmpi .slt ei (broadcastInDim S8x2 ![] bcast_S_S8x2 (constantI S_ 32 0#32))) (addi ei (broadcastInDim S8x2 ![] bcast_S_S8x2 (constantI S_ 32 8#32))) ei)

/-- Where a take's index words are in range. -/
def inside (ei : IVec S8x2 32) : IVec S8x2 1 :=
  Host.reduce IntOp.andi (andi (cmpi .sge (wrapped ei) (broadcastInDim S8x2x1 ![] bcast_S_S8x2x1 (constantI S_ 32 0#32))) (cmpi .sle (wrapped ei) (broadcastInDim S8x2x1 ![0, 1, 2] bcast_S1x1x1_S8x2x1_0_1_2 (broadcastInDim S1x1x1 ![2] bcast_S1_S1x1x1_2 (constantI S1 32 7#32))))) (constantI S_ 1 1#1) reducesTo_S8x2x1_S8x2_d2 h_S_

/-- The up-projections taken by the index words. -/
def takeUp (w : FVec Ideal S8x2048x1024 .f32) (ei : IVec S8x2 32) : FVec Ideal S8x2x2048x1024 .f32 :=
  select (broadcastInDim S8x2x2048x1024 ![0, 1] bcast_S8x2_S8x2x2048x1024_0_1 (inside ei))
    (Host.gather gather_S8x2048x1024_S8x2x1_S8x2x2048x1024_23_0_n_n_0_2_120481024 w (wrapped ei))
    (broadcastInDim S8x2x2048x1024 ![] bcast_S_S8x2x2048x1024 (constant S_ .f32 0x7FC00000#32))

/-- The down-projections taken by the index words. -/
def takeDown (w : FVec Ideal S8x1024x2048 .f32) (ei : IVec S8x2 32) : FVec Ideal S8x2x1024x2048 .f32 :=
  select (broadcastInDim S8x2x1024x2048 ![0, 1] bcast_S8x2_S8x2x1024x2048_0_1 (inside ei))
    (Host.gather gather_S8x1024x2048_S8x2x1_S8x2x1024x2048_23_0_n_n_0_2_110242048 w (wrapped ei))
    (broadcastInDim S8x2x1024x2048 ![] bcast_S_S8x2x1024x2048 (constant S_ .f32 0x7FC00000#32))

theorem word_cases {P : BitVec 32 → Prop} (h : ∀ k : Fin 8, P (BitVec.ofNat 32 k.val)) (w : BitVec 32) (hw : w.toNat < 8) : P w := by
  have := h ⟨w.toNat, hw⟩
  rwa [show BitVec.ofNat 32 w.toNat = w from BitVec.eq_of_toNat_eq (by simp)] at this

theorem wrapped_apply (ei : IVec S8x2 32) (t : Fin 8) (r : Fin 2) (o : Fin 1) (h : (ei (ix2 t r)).toNat < 8) : wrapped ei (ix3 t r o) = ei (ix2 t r) := by
  unfold wrapped
  pointwise
  exact word_cases (P := fun w => Scalar.select (IntOp.cmpi CmpIPredicate.slt w 0#32) (IntOp.addi w 8#32) w = w) (by decide) _ h

theorem inside_apply (ei : IVec S8x2 32) (t : Fin 8) (r : Fin 2) (h : (ei (ix2 t r)).toNat < 8) : inside ei (ix2 t r) = 1#1 := by
  unfold inside
  pointwise
  rw [show (Finset.univ : Finset (Fin 1)) = {0} from rfl, Finset.fold_singleton, wrapped_apply ei t r 0 h]
  exact word_cases (P := fun w => IntOp.andi (IntOp.andi (IntOp.cmpi CmpIPredicate.sge w 0#32) (IntOp.cmpi CmpIPredicate.sle w 7#32)) 1#1 = 1#1) (by decide) _ h

theorem clamp (w : BitVec 32) (hw : w.toNat < 8) : min w.toInt.toNat (8 - 1) = w.toNat :=
  word_cases (P := fun w => min w.toInt.toNat (8 - 1) = w.toNat) (by decide) w hw

theorem gatherUp_apply (w : FVec Ideal S8x2048x1024 .f32) (i : IVec S8x2x1 32) (t : Fin 8) (r : Fin 2) (k : Fin 2048) (l : Fin 1024) (h : (i (ix3 t r 0)).toNat < 8) :
    Host.gather gather_S8x2048x1024_S8x2x1_S8x2x2048x1024_23_0_n_n_0_2_120481024 w i (ix4 t r k l) = w (ix3 ⟨(i (ix3 t r 0)).toNat, h⟩ k l) := by
  unfold Host.gather
  refine congrArg w (funext fun a => Fin.ext ?_)
  match a with
  | ⟨0, _⟩ =>
    refine Eq.trans ?_ (clamp (i (ix3 t r 0)) h)
    show min (i (GatherDims.siIdx _ _ _)).toInt.toNat (8 - 1) + 0 + 0 = _
    refine congrArg (fun j => min (i j).toInt.toNat (8 - 1)) (funext fun b => ?_)
    fin_cases b <;> rfl
  | ⟨1, _⟩ => exact (Nat.zero_add _).trans rfl
  | ⟨2, _⟩ => exact (Nat.zero_add _).trans rfl

theorem gatherDown_apply (w : FVec Ideal S8x1024x2048 .f32) (i : IVec S8x2x1 32) (t : Fin 8) (r : Fin 2) (k : Fin 1024) (l : Fin 2048) (h : (i (ix3 t r 0)).toNat < 8) :
    Host.gather gather_S8x1024x2048_S8x2x1_S8x2x1024x2048_23_0_n_n_0_2_110242048 w i (ix4 t r k l) = w (ix3 ⟨(i (ix3 t r 0)).toNat, h⟩ k l) := by
  unfold Host.gather
  refine congrArg w (funext fun a => Fin.ext ?_)
  match a with
  | ⟨0, _⟩ =>
    refine Eq.trans ?_ (clamp (i (ix3 t r 0)) h)
    show min (i (GatherDims.siIdx _ _ _)).toInt.toNat (8 - 1) + 0 + 0 = _
    refine congrArg (fun j => min (i j).toInt.toNat (8 - 1)) (funext fun b => ?_)
    fin_cases b <;> rfl
  | ⟨1, _⟩ => exact (Nat.zero_add _).trans rfl
  | ⟨2, _⟩ => exact (Nat.zero_add _).trans rfl

/-- In range, a take reads the chosen expert's matrix. -/
theorem takeUp_apply (w) (ei : IVec S8x2 32) (t : Fin 8) (r : Fin 2) (k : Fin 2048) (l : Fin 1024) (h : (ei (ix2 t r)).toNat < 8) :
    takeUp w ei (ix4 t r k l) = w (ix3 ⟨_, h⟩ k l) := by
  have e := wrapped_apply ei t r 0 h
  unfold takeUp
  pointwise
  rw [inside_apply ei t r h, gatherUp_apply w (wrapped ei) t r k l (e.symm ▸ h)]
  simp only [e]
  rfl

theorem takeDown_apply (w) (ei : IVec S8x2 32) (t : Fin 8) (r : Fin 2) (k : Fin 1024) (l : Fin 2048) (h : (ei (ix2 t r)).toNat < 8) :
    takeDown w ei (ix4 t r k l) = w (ix3 ⟨_, h⟩ k l) := by
  have e := wrapped_apply ei t r 0 h
  unfold takeDown
  pointwise
  rw [inside_apply ei t r h, gatherDown_apply w (wrapped ei) t r k l (e.symm ▸ h)]
  simp only [e]
  rfl

/-! ## The reference's result -/

/-- The reference's computation from the weights it takes. -/
def mlp (x : FVec Ideal S8x1024 .f32) (g u : FVec Ideal S8x2x2048x1024 .f32) (d : FVec Ideal S8x2x1024x2048 .f32) : FVec Ideal S8x2x1024 .f32 :=
  Host.dotGeneral dot_S8x2x2048_S8x2x1024x2048_S8x2x1024_2_3_n_2_01_01 none (mulf (mulf (Host.dotGeneral dot_S8x1024_S8x2x2048x1024_S8x2x2048_1_3_n_12_0_0 none x g) (Host.divf (broadcastInDim S8x2x2048 ![] bcast_S_S8x2x2048 (constant S_ .f32 0x3F800000#32)) (addf (broadcastInDim S8x2x2048 ![] bcast_S_S8x2x2048 (constant S_ .f32 0x3F800000#32)) (Host.exp (Host.negf (Host.dotGeneral dot_S8x1024_S8x2x2048x1024_S8x2x2048_1_3_n_12_0_0 none x g)))))) (Host.dotGeneral dot_S8x1024_S8x2x2048x1024_S8x2x2048_1_3_n_12_0_0 none x u)) d

/-- From in-range choices the reference's element is the chosen expert's answer. -/
theorem mlp_apply (x wg wu wd) (ei : IVec S8x2 32) (t : Fin 8) (r : Fin 2) (l : Fin 1024) (h : (ei (ix2 t r)).toNat < 8) :
    mlp x (takeUp wg ei) (takeUp wu ei) (takeDown wd ei) (ix3 t r l) = answer x wg wu wd ⟨_, h⟩ t l := by
  unfold mlp answer proj Ideal.logistic
  pointwise
  simp only [takeUp_apply _ ei t r _ _ h, takeDown_apply _ ei t r _ _ h]

variable (m : (ℓ : Loc nD τ sig) → Buf (Elt Ideal) ℓ) (c : Dev nD)

/-- The generated result term is that computation. -/
theorem res_eq : Value.res_main_v7 m c = mlp (m ((c.tc : Thread nD τ).loc main_arg0)) (takeUp (m ((c.tc : Thread nD τ).loc main_arg2)) (m ((c.tc : Thread nD τ).loc main_arg1)))
    (takeUp (m ((c.tc : Thread nD τ).loc main_arg3)) (m ((c.tc : Thread nD τ).loc main_arg1))) (takeDown (m ((c.tc : Thread nD τ).loc main_arg4)) (m ((c.tc : Thread nD τ).loc main_arg1))) := by
  unfold Value.res_main_v7 mlp takeUp takeDown inside wrapped
  rfl

end Cert.Moe

end
-- ==== Proof.KernelIdeal.Value.lean ====
module

public import proofs.«01_k».proof.Proof.KernelIdeal.Final
public import proofs.«01_k».proof.Proof.Ref

@[expose] public section

set_option maxRecDepth 16384
set_option Elab.async false

noncomputable section

namespace Cert.KernelIdeal.Own

open Cert.KernelIdeal Cert.KernelIdeal.Gen
open Idealize.ShloMosaic
open Idealize.ShloMosaic.TcCoe Idealize.ShloMosaic.Tactic
open Idealize.ShloMosaic.Pipeline (Window)

/-- The point's value is its expert's answer, from blocks that hold that expert's matrices. -/
theorem pay3_apply (x : FVec Ideal S8x1024 .f32) (wg wu : FVec Ideal S1x2048x1024 .f32) (wd : FVec Ideal S1x1024x2048 .f32)
    (Wg Wu : FVec Ideal S8x2048x1024 .f32) (Wd : FVec Ideal S8x1024x2048 .f32) (k : Fin 8)
    (hg : ∀ h d, wg (ix3 0 h d) = Wg (ix3 k h d)) (hu : ∀ h d, wu (ix3 0 h d) = Wu (ix3 k h d)) (hd : ∀ l h, wd (ix3 0 l h) = Wd (ix3 k l h))
    (t : Fin 8) (l : Fin 1024) :
    k0_pay3 (F := Ideal) x wg wu wd (ix2 t l) = Moe.answer x Wg Wu Wd k t l := by
  unfold k0_pay3 Moe.answer Moe.proj
  pointwise
  simp only [hg, hu, hd]

variable (m : (ℓ : Loc nD τ sig) → Buf (Elt Ideal) ℓ)
variable (hr : ∀ t r, (choice m (0 : Dev nD) (ix2 (n0 := 8) (n1 := 2) t r)).toNat < 8)
variable (V : Dev nD → Valuation τ sig (Elt Ideal)) (c : Dev nD) (t : Fin 8)

/-- The word of the schedule that point `t` reads. -/
abbrev word : BitVec 32 := schedule m 0 (Router.at9 t.castSucc)

include hr in
theorem word_lt : (word m t).toNat < 8 := (Router.sched_good _ hr).1 t

/-- The expert of point `t`. -/
abbrev expert (hr : ∀ t r, (choice m (0 : Dev nD) (ix2 (n0 := 8) (n1 := 2) t r)).toNat < 8) (t : Fin 8) : Fin 8 := ⟨(word m t).toNat, word_lt m hr t⟩

theorem word_at : ((contents (F := Ideal) (schedule m 0)).at 0 (Rect.unit (s := S9) (k0_off1 (grid0.coords t)) S1.size (k0_off1_inb (grid0.coords t))) numel1_S1 : BitVec 32) = word m t := by
  refine (at_eq (schedule m 0) _).trans (congrArg (schedule m 0) (congrArg Router.at9 (Fin.ext ?_)))
  revert t; decide

theorem zero_at (t : Fin 8) : ((BitVec.ofNat 32 (grid0.coords t 0).val).toNat : ℕ) = 0 := by revert t; decide

theorem iblk0 : iblk (adm m hr) V c (0 : Fin 6) t = V c (Proc.devRef .tc main_arg0) := by
  funext y
  show V c (Proc.devRef .tc main_arg0) ((((cfgA (adm m hr)).win (0 : Fin 6)).rect t).emb y) = _
  refine congrArg _ (funext fun k => Fin.ext ?_)
  refine (Window.rect_emb_val _ _ _ _).trans ?_
  fin_cases k <;> exact Nat.zero_add _

theorem iblk1 : iblk (adm m hr) V c (1 : Fin 6) t = V c (Proc.devRef .tc main_arg1) := by
  funext y
  show V c (Proc.devRef .tc main_arg1) ((((cfgA (adm m hr)).win (1 : Fin 6)).rect t).emb y) = _
  refine congrArg _ (funext fun k => Fin.ext ?_)
  refine (Window.rect_emb_val _ _ _ _).trans ?_
  fin_cases k <;> exact Nat.zero_add _

theorem iblk2 (h : Fin 2048) (d : Fin 1024) : iblk (adm m hr) V c (2 : Fin 6) t (ix3 (n0 := 1) 0 h d) = V c (Proc.devRef .tc main_arg2) (ix3 (expert m hr t) h d) := by
  show V c (Proc.devRef .tc main_arg2) ((((cfgA (adm m hr)).win (2 : Fin 6)).rect t).emb (ix3 (n0 := 1) 0 h d)) = _
  refine congrArg _ (funext fun k => Fin.ext ?_)
  refine (Window.rect_emb_val _ _ _ _).trans ?_
  fin_cases k
  · exact (congrArg (fun w : BitVec 32 => w.toNat * 1 + 0) (word_at m t)).trans (show (word m t).toNat * 1 + 0 = (word m t).toNat by omega)
  · exact (congrArg (fun n : ℕ => n * 2048 + h.val) (zero_at t)).trans (show 0 * 2048 + h.val = h.val by omega)
  · exact Nat.zero_add _

theorem iblk3 (h : Fin 2048) (d : Fin 1024) : iblk (adm m hr) V c (3 : Fin 6) t (ix3 (n0 := 1) 0 h d) = V c (Proc.devRef .tc main_arg3) (ix3 (expert m hr t) h d) := by
  show V c (Proc.devRef .tc main_arg3) ((((cfgA (adm m hr)).win (3 : Fin 6)).rect t).emb (ix3 (n0 := 1) 0 h d)) = _
  refine congrArg _ (funext fun k => Fin.ext ?_)
  refine (Window.rect_emb_val _ _ _ _).trans ?_
  fin_cases k
  · exact (congrArg (fun w : BitVec 32 => w.toNat * 1 + 0) (word_at m t)).trans (show (word m t).toNat * 1 + 0 = (word m t).toNat by omega)
  · exact (congrArg (fun n : ℕ => n * 2048 + h.val) (zero_at t)).trans (show 0 * 2048 + h.val = h.val by omega)
  · exact Nat.zero_add _

theorem iblk4 (l : Fin 1024) (h : Fin 2048) : iblk (adm m hr) V c (4 : Fin 6) t (ix3 (n0 := 1) 0 l h) = V c (Proc.devRef .tc main_arg4) (ix3 (expert m hr t) l h) := by
  show V c (Proc.devRef .tc main_arg4) ((((cfgA (adm m hr)).win (4 : Fin 6)).rect t).emb (ix3 (n0 := 1) 0 l h)) = _
  refine congrArg _ (funext fun k => Fin.ext ?_)
  refine (Window.rect_emb_val _ _ _ _).trans ?_
  fin_cases k
  · exact (congrArg (fun w : BitVec 32 => w.toNat * 1 + 0) (word_at m t)).trans (show (word m t).toNat * 1 + 0 = (word m t).toNat by omega)
  · exact Nat.zero_add _
  · exact (congrArg (fun n : ℕ => n * 2048 + h.val) (zero_at t)).trans (show 0 * 2048 + h.val = h.val by omega)

/-! ## The accumulator's rows -/

/-- Row of choice `r` and token `q`. -/
abbrev row (q : Fin 8) (r : Fin 2) : Fin 16 := ⟨r.val * 8 + q.val, by omega⟩

/-- One point at one element: an active point whose expert is the row's choice adds the answer, any other adds zero. -/
theorem step_apply (q : Fin 8) (r : Fin 2) (l : Fin 1024) (acc : S16x1024.Idx → EReal) :
    step (adm m hr) (V₁ m) c t acc (ix2 (row q r) l)
      = if t.val < (schedule m 0 (Router.at9 8)).toNat then
          (if t.val = 0 then 0 else acc (ix2 (row q r) l)) +
            (if choice m c (ix2 q r) = word m t then
              Moe.answer (m ((c.tc : Thread nD τ).loc main_arg0)) (m ((c.tc : Thread nD τ).loc main_arg2)) (m ((c.tc : Thread nD τ).loc main_arg3)) (m ((c.tc : Thread nD τ).loc main_arg4)) (expert m hr t) q l
            else 0)
        else acc (ix2 (row q r) l) := by
  have z : (zeroF (F := Ideal)) = (0 : EReal) := Ideal.ofBits_zero_f32
  have hp := pay3_apply (V₁ m c (Proc.devRef .tc main_arg0)) (iblk (adm m hr) (V₁ m) c (2 : Fin 6) t) (iblk (adm m hr) (V₁ m) c (3 : Fin 6) t) (iblk (adm m hr) (V₁ m) c (4 : Fin 6) t)
    _ _ _ (expert m hr t) (iblk2 m hr (V₁ m) c t) (iblk3 m hr (V₁ m) c t) (iblk4 m hr (V₁ m) c t) q l
  rw [args_before m c (r := main_arg0) (by decide), args_before m c (r := main_arg2) (by decide), args_before m c (r := main_arg3) (by decide), args_before m c (r := main_arg4) (by decide)] at hp
  unfold step
  by_cases ha : t.val < (schedule m 0 (Router.at9 8)).toNat
  · rw [if_pos ((active_iff m hr t).2 ha), if_pos ha]
    have e0 : V₁ m c (Proc.devRef .tc main_arg0) = m ((c.tc : Thread nD τ).loc main_arg0) := args_before m c (by decide)
    have e1 : V₁ m c (Proc.devRef .tc main_arg1) = m ((c.tc : Thread nD τ).loc main_arg1) := args_before m c (by decide)
    have key : ∀ acc' : S16x1024.Idx → EReal, stepAcc (F := Ideal) (expW (F := Ideal) (tabOf (adm m hr)) (crd (adm m hr) t)) (iblk (adm m hr) (V₁ m) c (0 : Fin 6) t) (iblk (adm m hr) (V₁ m) c (1 : Fin 6) t)
        (iblk (adm m hr) (V₁ m) c (2 : Fin 6) t) (iblk (adm m hr) (V₁ m) c (3 : Fin 6) t) (iblk (adm m hr) (V₁ m) c (4 : Fin 6) t) acc' (ix2 (row q r) l)
        = acc' (ix2 (row q r) l) + (if choice m c (ix2 q r) = word m t then
              Moe.answer (m ((c.tc : Thread nD τ).loc main_arg0)) (m ((c.tc : Thread nD τ).loc main_arg2)) (m ((c.tc : Thread nD τ).loc main_arg3)) (m ((c.tc : Thread nD τ).loc main_arg4)) (expert m hr t) q l
            else 0) := fun acc' => by
      rw [iblk0, iblk1, show expW (F := Ideal) (tabOf (adm m hr)) (crd (adm m hr) t) = word m t from expW_eq _ t, e0, e1]
      match r with
      | ⟨0, _⟩ =>
        rw [stepAcc_lo _ _ _ _ _ _ _ _ q l (by show 0 * 8 + q.val = q.val; omega) rfl, hp, z]
        rfl
      | ⟨1, _⟩ =>
        rw [stepAcc_hi _ _ _ _ _ _ _ _ q l (by show 1 * 8 + q.val = 8 + q.val; omega) rfl, hp, z]
        rfl
    refine (key _).trans ?_
    by_cases h0 : t.val = 0
    · rw [if_pos h0, if_pos h0, z]
    · rw [if_neg h0, if_neg h0]
  · rw [if_neg (fun h => ha ((active_iff m hr t).1 h)), if_neg ha]

/-- After the points up to `n` a row holds its choice's answer once that expert's point is past, and zero before. -/
theorem traj_apply (h0 : c = 0) (q : Fin 8) (r : Fin 2) (l : Fin 1024) (p : Fin 8) (hp : p.val < (schedule m 0 (Router.at9 8)).toNat)
    (hw : word m p = choice m c (ix2 q r))
    (hu : ∀ e : Fin 8, e.val < (schedule m 0 (Router.at9 8)).toNat → word m e = choice m c (ix2 q r) → e = p) :
    ∀ (n : ℕ) (hn : n < 8), traj (adm m hr) (V₁ m) c n hn (ix2 (row q r) l)
      = if p.val ≤ n then
          Moe.answer (m ((c.tc : Thread nD τ).loc main_arg0)) (m ((c.tc : Thread nD τ).loc main_arg2)) (m ((c.tc : Thread nD τ).loc main_arg3)) (m ((c.tc : Thread nD τ).loc main_arg4)) (expert m hr p) q l
        else (0 : EReal)
  | 0, hn => by
    refine (step_apply m hr c ⟨0, hn⟩ q r l _).trans ?_
    rw [if_pos (show 0 < _ from lt_of_le_of_lt (Nat.zero_le _) hp), if_pos rfl, zero_add]
    by_cases h : p = ⟨0, hn⟩
    · subst h; rw [if_pos hw.symm, if_pos (le_refl _)]
    · rw [if_neg fun e => h (hu _ (lt_of_le_of_lt (Nat.zero_le _) hp) e.symm).symm, if_neg]
      exact fun h' => h (Fin.ext (Nat.le_zero.1 h'))
  | n + 1, hn => by
    refine (step_apply m hr c ⟨n + 1, hn⟩ q r l _).trans ?_
    rw [traj_apply h0 q r l p hp hw hu n (Nat.lt_of_succ_lt hn), if_neg (Nat.succ_ne_zero n)]
    by_cases ha : n + 1 < (schedule m 0 (Router.at9 8)).toNat
    · rw [if_pos ha]
      by_cases h : p = ⟨n + 1, hn⟩
      · subst h
        rw [if_pos hw.symm, if_neg (show ¬ n + 1 ≤ n by omega), if_pos (le_refl _), zero_add]
      · have hne : p.val ≠ n + 1 := fun h' => h (Fin.ext h')
        rw [if_neg (show ¬ choice m c (ix2 q r) = word m ⟨n + 1, hn⟩ from fun e => h (hu ⟨n + 1, hn⟩ ha e.symm).symm), add_zero]
        by_cases hle : p.val ≤ n
        · rw [if_pos hle, if_pos (by omega)]
        · rw [if_neg hle, if_neg (by omega)]
    · rw [if_neg ha]
      by_cases hle : p.val ≤ n
      · rw [if_pos hle, if_pos (by omega)]
      · omega

/-- The result's element is the chosen expert's answer. -/
theorem result_apply (q : Fin 8) (r : Fin 2) (l : Fin 1024) :
    result m (adm m hr) 0 (ix3 q r l)
      = Moe.answer (m (((0 : Dev nD).tc : Thread nD τ).loc main_arg0)) (m (((0 : Dev nD).tc : Thread nD τ).loc main_arg2)) (m (((0 : Dev nD).tc : Thread nD τ).loc main_arg3)) (m (((0 : Dev nD).tc : Thread nD τ).loc main_arg4))
          ⟨_, hr q r⟩ q l := by
  obtain ⟨p, hp, hw, hu⟩ := (Router.sched_good _ hr).2.2.2 q r
  have e : result m (adm m hr) 0 (ix3 q r l) = traj (adm m hr) (V₁ m) 0 7 (last7 (adm m hr)).isLt (ix2 (row q r) l) := by
    unfold result
    pointwise
  rw [e]
  refine (traj_apply m hr 0 rfl q r l p hp hw hu 7 (by decide)).trans ?_
  rw [if_pos (show p.val ≤ 7 by omega)]
  exact congrArg (fun k => Moe.answer _ _ _ _ k q l) (Fin.ext (congrArg BitVec.toNat hw))

end Cert.KernelIdeal.Own

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Run
public import proofs.«01_k».proof.Proof.Gen.Pre_in_range
public import proofs.«01_k».proof.Proof.Kernel.Final
public import proofs.«01_k».proof.Proof.KernelIdeal.Value
public import Idealize.ShloMosaic.Lib.Quiescent
public import Idealize.ShloMosaic.Adequacy
public import Idealize.ShloMosaic.Init

@[expose] public section

noncomputable section

namespace Cert.Proof

open Idealize.ShloMosaic Idealize.SL.Sem

/-- The kernel runs in machine arithmetic: its arguments unchanged, every counter at zero. -/
theorem quiescent_kernel : Cert.quiescent_Kernel := fun m g hpre =>
  (θ_run _ _ _).mono (fun s h => ⟨fun c => ⟨(h.1 c).2 _ (by decide), (h.1 c).2 _ (by decide), (h.1 c).2 _ (by decide), (h.1 c).2 _ (by decide), (h.1 c).2 _ (by decide)⟩, h.2⟩)
    (Kernel.Own.run m g (Router.in_range _ _ _ _ _ (hpre 0)))

/-- The same over the extended reals. -/
theorem quiescent_kernelIdeal : Cert.quiescent_KernelIdeal := fun m g hpre =>
  (θ_run _ _ _).mono (fun s h => ⟨fun c => ⟨(h.1 c).2 _ (by decide), (h.1 c).2 _ (by decide), (h.1 c).2 _ (by decide), (h.1 c).2 _ (by decide), (h.1 c).2 _ (by decide)⟩, h.2⟩)
    (KernelIdeal.Own.run m g (Router.in_range _ _ _ _ _ (hpre 0)))

/-- The reference runs: its arguments unchanged, and it has no counter. -/
theorem quiescent_referenceIdeal : Cert.quiescent_ReferenceIdeal := fun m g _ =>
  (θ_run _ _ _).mono (fun s h => ⟨fun c => (h c).2, sem_eq_zero_of_no_sems (by decide) _⟩) (ReferenceIdeal.Value.run m g)

/-- From in-range choices the reference's result is the kernel's, element by element the chosen expert's answer. -/
theorem results (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ)
    (hr : ∀ t r, (KernelIdeal.Own.choice m (0 : Dev KernelIdeal.nD) (ix2 (n0 := 8) (n1 := 2) t r)).toNat < 8)
    (h0 : m' (((0 : Dev ReferenceIdeal.nD).tc : Thread ReferenceIdeal.nD ReferenceIdeal.τ).loc ReferenceIdeal.main_arg0) = m (((0 : Dev KernelIdeal.nD).tc : Thread KernelIdeal.nD KernelIdeal.τ).loc KernelIdeal.main_arg0))
    (h1 : m' (((0 : Dev ReferenceIdeal.nD).tc : Thread ReferenceIdeal.nD ReferenceIdeal.τ).loc ReferenceIdeal.main_arg1) = m (((0 : Dev KernelIdeal.nD).tc : Thread KernelIdeal.nD KernelIdeal.τ).loc KernelIdeal.main_arg1))
    (h2 : m' (((0 : Dev ReferenceIdeal.nD).tc : Thread ReferenceIdeal.nD ReferenceIdeal.τ).loc ReferenceIdeal.main_arg2) = m (((0 : Dev KernelIdeal.nD).tc : Thread KernelIdeal.nD KernelIdeal.τ).loc KernelIdeal.main_arg2))
    (h3 : m' (((0 : Dev ReferenceIdeal.nD).tc : Thread ReferenceIdeal.nD ReferenceIdeal.τ).loc ReferenceIdeal.main_arg3) = m (((0 : Dev KernelIdeal.nD).tc : Thread KernelIdeal.nD KernelIdeal.τ).loc KernelIdeal.main_arg3))
    (h4 : m' (((0 : Dev ReferenceIdeal.nD).tc : Thread ReferenceIdeal.nD ReferenceIdeal.τ).loc ReferenceIdeal.main_arg4) = m (((0 : Dev KernelIdeal.nD).tc : Thread KernelIdeal.nD KernelIdeal.τ).loc KernelIdeal.main_arg4)) :
    ReferenceIdeal.Value.res_main_v7 m' 0 = KernelIdeal.Own.result m (KernelIdeal.Own.adm m hr) 0 := by
  rw [Moe.res_eq, h0, h1, h2, h3, h4]
  funext j
  rw [eq_ix3 j]
  exact (Moe.mlp_apply _ _ _ _ _ _ _ _ (hr _ _)).trans (KernelIdeal.Own.result_apply m hr _ _ _).symm

/-- The kernel computes the reference's result. -/
theorem algebraic : Cert.algebraic_KernelIdeal_ReferenceIdeal := fun m g m' g' hpre hin => by
  have hr := Router.in_range _ _ _ _ _ (hpre 0)
  refine ⟨KernelIdeal.Own.result m (KernelIdeal.Own.adm m hr), (θ_run _ _ _).mono (fun s h c => ⟨(h.1 c).1, (h.1 c).2 _ (by decide), (h.1 c).2 _ (by decide), (h.1 c).2 _ (by decide), (h.1 c).2 _ (by decide), (h.1 c).2 _ (by decide)⟩)
    (KernelIdeal.Own.run m g hr), (θ_run _ _ _).mono (fun s h c => ⟨(h c).1.trans ?_, (h c).2⟩) (ReferenceIdeal.Value.run m' g')⟩
  obtain rfl : c = 0 := Subsingleton.elim _ _
  exact results m m' hr (hin 0).1 (hin 0).2.1 (hin 0).2.2.1 (hin 0).2.2.2.1 (hin 0).2.2.2.2

theorem claim : Cert.Claim := ⟨Cert.Kernel.Gen.facts, Cert.KernelIdeal.Gen.facts, Cert.ReferenceIdeal.Gen.facts, Cert.Pre_in_range.Gen.facts,
  quiescent_kernel, quiescent_kernelIdeal, quiescent_referenceIdeal, trivial, algebraic⟩

end Cert.Proof

end
